-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 256, 128]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 256, 128]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x32768 : Shape := ⟨2, ![1024, 32768]⟩
abbrev S1x1024x8x128 : Shape := ⟨4, ![1, 1024, 8, 128]⟩
abbrev S32768x1024 : Shape := ⟨2, ![32768, 1024]⟩
abbrev S_ : Shape := ⟨0, ![]⟩
abbrev S1024x1024 : Shape := ⟨2, ![1024, 1024]⟩
abbrev S1024x8x128 : Shape := ⟨3, ![1024, 8, 128]⟩
abbrev S2x32x1024 : Shape := ⟨3, ![2, 32, 1024]⟩
abbrev S2 : Shape := ⟨1, ![2]⟩
abbrev S31 : Shape := ⟨1, ![31]⟩
abbrev S1024x128 : Shape := ⟨2, ![1024, 128]⟩
abbrev S1024x1x128 : Shape := ⟨3, ![1024, 1, 128]⟩
abbrev S1024 : Shape := ⟨1, ![1024]⟩
abbrev S1024x1 : Shape := ⟨2, ![1024, 1]⟩
abbrev S128x1024 : Shape := ⟨2, ![128, 1024]⟩
abbrev S1 : Shape := ⟨1, ![1]⟩
abbrev S1x32x1024 : Shape := ⟨3, ![1, 32, 1024]⟩
abbrev S32x1024 : Shape := ⟨2, ![32, 1024]⟩

abbrev nBuf : Space → Nat
  | .hbm => 34
  | .vmem => 7
  | .smem => 0
  | _ => 0

abbrev bufTy : (tb : Table) → Fin (tcTables nBuf tb) → BufTy
  | .hbm, ⟨0, _⟩ => ⟨S1x1024x1024, .f32⟩
  | .hbm, ⟨1, _⟩ => ⟨S1024x32768, .f32⟩
  | .hbm, ⟨2, _⟩ => ⟨S1x1024x8x128, .f32⟩
  | .hbm, ⟨3, _⟩ => ⟨S1x1024x8x128, .f32⟩
  | .hbm, ⟨4, _⟩ => ⟨S32768x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1024x1024, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1024x1024, .f32⟩
  | .hbm, ⟨30, _⟩ => ⟨S1024x8x128, .f32⟩
  | .hbm, ⟨31, _⟩ => ⟨S1024x8x128, .f32⟩
  | .hbm, ⟨32, _⟩ => ⟨S1024x1024, .f32⟩
  | .hbm, ⟨33, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x8x128, .f32⟩
  | .local _ .vmem, ⟨3, _⟩ => ⟨S1024x8x128, .f32⟩
  | .local _ .vmem, ⟨4, _⟩ => ⟨S1024x1024, .f32⟩
  | .local _ .vmem, ⟨5, _⟩ => ⟨S1024x1024, .f32⟩
  | .local _ .vmem, ⟨6, _⟩ => ⟨S2x32x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => true
  | ⟨1, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 2 72 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_99 : BitVec 32 := 1#32
  let v289 : BitVec 32 := Scalar.muli v5 c1_i32_99
  let v290 : BitVec 32 := Scalar.addi c0_i32_100 v289
  v290.toNat
def k0_dev2 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_102 : BitVec 32 := 1#32
  let v291 : BitVec 32 := Scalar.muli v7 c1_i32_102
  let v292 : BitVec 32 := Scalar.addi c0_i32_103 v291
  v292.toNat
@[reducible] def k0_t1_loop : Scf.Loop 32 :=
  let c0_i32_104 : BitVec 32 := 0#32
  let c31_i32 : BitVec 32 := 31#32
  let v293 : BitVec 32 := Scalar.addi c0_i32_104 c31_i32
  let c1_i32_105 : BitVec 32 := 1#32
  ⟨c0_i32_104, v293, c1_i32_105⟩
def k0_off1 (k0_t1 : Fin k0_t1_loop.trips) : Fin 1 → Nat :=
  let c0_i32_104 : BitVec 32 := 0#32
  let c1_i32_105 : BitVec 32 := 1#32
  let arg12 : BitVec 32 := Scf.iv c0_i32_104 c1_i32_105 k0_t1
  let c2_i32_111 : BitVec 32 := 2#32
  let v295 : BitVec 32 := Scalar.remsi arg12 c2_i32_111
  ![v295.toNat]
def k0_off2 (k0_t1 : Fin k0_t1_loop.trips) : Fin 3 → Nat :=
  let c0_i32_104 : BitVec 32 := 0#32
  let c1_i32_105 : BitVec 32 := 1#32
  let arg12 : BitVec 32 := Scf.iv c0_i32_104 c1_i32_105 k0_t1
  let c2_i32_111 : BitVec 32 := 2#32
  let v295 : BitVec 32 := Scalar.remsi arg12 c2_i32_111
  let c0_i32_122 : BitVec 32 := 0#32
  let c0_i32_123 : BitVec 32 := 0#32
  ![v295.toNat, 0, 0]
def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_104 : BitVec 32 := 0#32
  let c1_i32_105 : BitVec 32 := 1#32
  let arg12 : BitVec 32 := Scf.iv c0_i32_104 c1_i32_105 k0_t1
  let v296 : BitVec 32 := Scalar.subi v2 arg12
  let c64_i32_112 : BitVec 32 := 64#32
  let v297 : BitVec 32 := Scalar.addi v296 c64_i32_112
  let c32_i32_113 : BitVec 32 := 32#32
  let v298 : BitVec 32 := Scalar.remsi v297 c32_i32_113
  let c32_i32_119 : BitVec 32 := 32#32
  let v306 : BitVec 32 := Scalar.muli v298 c32_i32_119
  let c0_i32_124 : BitVec 32 := 0#32
  ![v306.toNat, 0]
def k0_dev3 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_120 : BitVec 32 := 1#32
  let v307 : BitVec 32 := Scalar.muli v7 c1_i32_120
  let v308 : BitVec 32 := Scalar.addi c0_i32_121 v307
  v308.toNat
def k0_off4 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_104 : BitVec 32 := 0#32
  let c1_i32_105 : BitVec 32 := 1#32
  let arg12 : BitVec 32 := Scf.iv c0_i32_104 c1_i32_105 k0_t1
  let v299 : BitVec 32 := Scalar.subi v2 arg12
  let c1_i32_114 : BitVec 32 := 1#32
  let v300 : BitVec 32 := Scalar.subi v299 c1_i32_114
  let c64_i32_115 : BitVec 32 := 64#32
  let v301 : BitVec 32 := Scalar.addi v300 c64_i32_115
  let c32_i32_116 : BitVec 32 := 32#32
  let v302 : BitVec 32 := Scalar.remsi v301 c32_i32_116
  let c32_i32_134 : BitVec 32 := 32#32
  let v328 : BitVec 32 := Scalar.muli v302 c32_i32_134
  let v329 : Index := Scalar.indexCast v328
  let c0_135 : Index := 0#32
  ![v329.toNat, 0]
def k0_off5 (k0_t1 : Fin k0_t1_loop.trips) : Fin 3 → Nat :=
  let c0_i32_104 : BitVec 32 := 0#32
  let c1_i32_105 : BitVec 32 := 1#32
  let arg12 : BitVec 32 := Scf.iv c0_i32_104 c1_i32_105 k0_t1
  let c2_i32_111 : BitVec 32 := 2#32
  let v295 : BitVec 32 := Scalar.remsi arg12 c2_i32_111
  let v332 : Index := Scalar.indexCast v295
  let c0_136 : Index := 0#32
  let c0_137 : Index := 0#32
  ![v332.toNat, 0, 0]
def k0_cond2 (k0_t1 : Fin k0_t1_loop.trips) : BitVec 1 :=
  let c0_i32_104 : BitVec 32 := 0#32
  let c1_i32_105 : BitVec 32 := 1#32
  let arg12 : BitVec 32 := Scf.iv c0_i32_104 c1_i32_105 k0_t1
  let c28_i32 : BitVec 32 := 28#32
  let v339 : BitVec 1 := Scalar.cmpi .sle arg12 c28_i32
  let v340 : BitVec 32 := Scalar.extui v339
  let c0_i32_140 : BitVec 32 := 0#32
  let v341 : BitVec 1 := Scalar.cmpi .ne v340 c0_i32_140
  v341

def k0_dev4 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_142 : BitVec 32 := 1#32
  let v342 : BitVec 32 := Scalar.muli v5 c1_i32_142
  let v343 : BitVec 32 := Scalar.addi c0_i32_143 v342
  v343.toNat
@[reducible] def k0_t2_loop : Scf.Loop 32 :=
  let c0_i32_107 : BitVec 32 := 0#32
  let c31_i32_108 : BitVec 32 := 31#32
  let v294 : BitVec 32 := Scalar.addi c0_i32_107 c31_i32_108
  let c1_i32_109 : BitVec 32 := 1#32
  ⟨c0_i32_107, v294, c1_i32_109⟩
def k0_off6 (k0_t2 : Fin k0_t2_loop.trips) : Fin 1 → Nat :=
  let c0_i32_107 : BitVec 32 := 0#32
  let c1_i32_109 : BitVec 32 := 1#32
  let arg12 : BitVec 32 := Scf.iv c0_i32_107 c1_i32_109 k0_t2
  ![arg12.toNat]
def k0_off7 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_111 : BitVec 32 := 1#32
  let v295 : BitVec 32 := Scalar.addi v2 c1_i32_111
  let c0_i32_107 : BitVec 32 := 0#32
  let c1_i32_109 : BitVec 32 := 1#32
  let arg12 : BitVec 32 := Scf.iv c0_i32_107 c1_i32_109 k0_t2
  let v296 : BitVec 32 := Scalar.subi v295 arg12
  let c64_i32_112 : BitVec 32 := 64#32
  let v297 : BitVec 32 := Scalar.addi v296 c64_i32_112
  let c32_i32_113 : BitVec 32 := 32#32
  let v298 : BitVec 32 := Scalar.remsi v297 c32_i32_113
  let c32_i32_115 : BitVec 32 := 32#32
  let v300 : BitVec 32 := Scalar.muli v298 c32_i32_115
  let c0_i32_118 : BitVec 32 := 0#32
  ![v300.toNat, 0]
def k0_dev5 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_116 : BitVec 32 := 1#32
  let v301 : BitVec 32 := Scalar.muli v7 c1_i32_116
  let v302 : BitVec 32 := Scalar.addi c0_i32_117 v301
  v302.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S1x1024x32768 : Shape := ⟨3, ![1, 1024, 32768]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x256x1024x1024 : Shape := ⟨4, ![1, 256, 1024, 1024]⟩
abbrev S1x1x1024x1024 : Shape := ⟨4, ![1, 1, 1024, 1024]⟩
abbrev S1x256x1024 : Shape := ⟨3, ![1, 256, 1024]⟩
abbrev S1x256x1024x1 : Shape := ⟨4, ![1, 256, 1024, 1]⟩
abbrev S1x1x1024x1 : Shape := ⟨4, ![1, 1, 1024, 1]⟩
abbrev S1x256x128x1024 : Shape := ⟨4, ![1, 256, 128, 1024]⟩

abbrev nBuf : Space → Nat
  | .hbm => 137
  | .vmem => 0
  | .smem => 0
  | _ => 0

abbrev hbmTy0_0 (i : Nat) : BufTy := match i % 128 with
  | 0 => ⟨S1x1024x1024, .f32⟩
  | 1 => ⟨S1024x32768, .f32⟩
  | 2 => ⟨S1x1024x256x128, .f32⟩
  | 3 => ⟨S1x1024x256x128, .f32⟩
  | 4 => ⟨S32768x1024, .f32⟩
  | 5 => ⟨S1x1024x32768, .f32⟩
  | 6 => ⟨S1x1024x256x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S1024x1024, .i32⟩
  | 48 => ⟨S1024x1024, .i32⟩
  | 49 => ⟨S1024x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x1024, .i32⟩
  | 95 => ⟨S1024x1024, .i32⟩
  | 96 => ⟨S1024x1024, .i1⟩
  | 97 => ⟨S1024x1024, .i1⟩
  | 98 => ⟨S1x256x1024x1024, .f32⟩
  | 99 => ⟨S_, .f32⟩
  | 100 => ⟨S1x256x1024x1024, .f32⟩
  | 101 => ⟨S1x256x1024x1024, .f32⟩
  | 102 => ⟨S1x1x1024x1024, .i1⟩
  | 103 => ⟨S_, .f32⟩
  | 104 => ⟨S_, .f32⟩
  | 105 => ⟨S1x256x1024x1024, .i1⟩
  | 106 => ⟨S1x256x1024x1024, .f32⟩
  | 107 => ⟨S1x256x1024x1024, .f32⟩
  | 108 => ⟨S_, .f32⟩
  | 109 => ⟨S1x256x1024, .f32⟩
  | 110 => ⟨S1x256x1024x1, .f32⟩
  | 111 => ⟨S1x256x1024x1024, .f32⟩
  | 112 => ⟨S1x256x1024x1024, .f32⟩
  | 113 => ⟨S1x256x1024x1024, .f32⟩
  | 114 => ⟨S_, .i1⟩
  | 115 => ⟨S1024, .i1⟩
  | 116 => ⟨S1x1x1024x1, .i1⟩
  | 117 => ⟨S_, .f32⟩
  | 118 => ⟨S1x256x1024, .f32⟩
  | 119 => ⟨S1x256x1024x1, .f32⟩
  | 120 => ⟨S_, .f32⟩
  | 121 => ⟨S_, .f32⟩
  | 122 => ⟨S1x256x1024x1, .i1⟩
  | 123 => ⟨S1x256x1024x1, .f32⟩
  | 124 => ⟨S1x256x1024x1, .f32⟩
  | 125 => ⟨S1x256x1024x1024, .f32⟩
  | 126 => ⟨S1x256x1024x1024, .f32⟩
  | 127 => ⟨S1x1x1024x1, .i1⟩
  | _ => ⟨S1x1024x1024, .f32⟩

abbrev hbmTy0_1 (i : Nat) : BufTy := match i % 128 with
  | 0 => ⟨S_, .f32⟩
  | 1 => ⟨S_, .f32⟩
  | 2 => ⟨S1x256x1024x1024, .i1⟩
  | 3 => ⟨S1x256x1024x1024, .f32⟩
  | 4 => ⟨S1x256x1024x1024, .f32⟩
  | 5 => ⟨S1x256x128x1024, .f32⟩
  | 6 => ⟨S1x1024x256x128, .f32⟩
  | 7 => ⟨S1x1024x32768, .f32⟩
  | 8 => ⟨S1x1024x1024, .f32⟩
  | _ => ⟨S1x1024x1024, .f32⟩

abbrev hbmTy (i : Nat) : BufTy := match i / 128 with
  | 0 => hbmTy0_0 i
  | 1 => hbmTy0_1 i
  | _ => ⟨S1x1024x1024, .f32⟩

abbrev bufTy : (tb : Table) → Fin (tcTables nBuf tb) → BufTy
  | .hbm, ⟨i, _⟩ => hbmTy i
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Common.lean ====
/-
  The protocol of the kernel's two ring passes, stated once for any float values `F` and any partial products `P`:
  where the pieces of memory are, what each semaphore's signals carry, and what each device owes.

  Thirty-two devices stand in a ring. Device `c` holds a 1024×1024 partial product `P c` in its output buffer, cut in 32
  chunks of 32 rows. Counting the steps of both passes through (the reduce-scatter's `t` is step `t`, the all-gather's `t`
  is step `31 + t`), device `c` at step `s` sends chunk `c - s` to device `c + 1`. So chunk `q` travels once round the ring
  and on: at step `s` it is sent by device `q + s`. In the first pass it gathers the partial products on its way
  (`acc P q s`: those of devices `q, …, q + s`), in the second it carries the sum.

  With the data of chunk `q` travels the right to overwrite chunk `q` on every device already visited (the "baggage"): the
  second pass writes straight into the output buffers, and what lets it do so is exactly that the chunk's own history
  passed through them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Loops
public import Idealize.ShloMosaic.Lib.Release
public import Idealize.ShloMosaic.Lib.Rounds
public import Idealize.ShloMosaic.Lib.Pipeline.Kit
public import Idealize.ShloMosaic.Lib.Tactic
public import Idealize.SL.BI.BigOpNat
public import Idealize.ShloMosaic.Lib.Exec.Geometry

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- A receive slot of the ring: a device and one of its two slots. -/
abbrev Key : Type := Dev nD × Fin 2

instance instURASlots : URA (Release.USlots Key) := by
  set_option synthInstance.maxHeartbeats 400000 in infer_instance
instance instURARing : URA (URounds (GSem nD τ sig) ℕ × Release.USlots Key) := inferInstance

/-- The pipeline's own copy of the rounds, the ring's rounds (duties named by numbers), the receive slots' records. -/
abbrev UU : Type := UR sig nD τ × (URounds (GSem nD τ sig) ℕ × Release.USlots Key)

local notation "𝕄" => MT nD τ sig ℕ (Elt F) ℕ UU ℕ

/-- The pipeline's component, -/
abbrev EP : Emb (UR sig nD τ) (MT nD τ sig ℕ (Elt F) ℕ UU ℕ) := embL
/-- the ring's rounds, -/
def ER : Emb (URounds (GSem nD τ sig) ℕ) (MT nD τ sig ℕ (Elt F) ℕ UU ℕ) := (Emb.inl : Emb _ (URounds (GSem nD τ sig) ℕ × Release.USlots Key)).trans embR
/-- and the receive slots. -/
def ES : Emb (Release.USlots Key) (MT nD τ sig ℕ (Elt F) ℕ UU ℕ) := (Emb.inr : Emb _ (URounds (GSem nD τ sig) ℕ × Release.USlots Key)).trans embR

instance ER_lands : (ER (F := F)).LandsIn (upEmb : UEmb _ 𝕄) := by unfold ER; infer_instance
instance ES_lands : (ES (F := F)).LandsIn (upEmb : UEmb _ 𝕄) := by unfold ES; infer_instance

/-! ## Positions on the ring -/

/-- The device (or chunk) `n` further on. -/
def fw (c : Dev nD) (n : ℕ) : Dev nD := ⟨(c.val + n) % 32, Nat.mod_lt _ (by decide)⟩
/-- The device (or chunk) `n` back, for `n ≤ 96`. -/
def bk (c : Dev nD) (n : ℕ) : Dev nD := ⟨(c.val + 96 - n) % 32, Nat.mod_lt _ (by decide)⟩

abbrev right (c : Dev nD) : Dev nD := fw c 1
abbrev left (c : Dev nD) : Dev nD := bk c 1

/-- The slot of step `t`. -/
def cur (t : ℕ) : Fin 2 := ⟨t % 2, Nat.mod_lt _ (by decide)⟩

theorem left_right (c : Dev nD) : left (right c) = c := by apply Fin.ext; have := c.isLt; simp only [bk, fw, nD] at *; omega
theorem right_left (c : Dev nD) : right (left c) = c := by apply Fin.ext; have := c.isLt; simp only [bk, fw, nD] at *; omega

/-! ## The pieces of memory -/

theorem chunk_inb (q : Dev nD) : ∀ a, (![32 * q.val, 0] : Fin 2 → ℕ) a + S32x1024.size a ≤ S1024x1024.size a := by
  have : q.val < 32 := q.isLt
  intro a; fin_cases a <;> simp [S32x1024, S1024x1024] <;> omega
theorem slot_inb (p : Fin 2) : ∀ a, (![p.val, 0, 0] : Fin 3 → ℕ) a + S1x32x1024.size a ≤ S2x32x1024.size a := by
  have := p.isLt
  intro a; fin_cases a <;> simp [S1x32x1024, S2x32x1024] <;> omega

/-- The output buffer and the receive buffer. -/
abbrev outM : Memref sig .tc .vmem S1024x1024 .f32 := Memref.whole cc0_stg5_0
abbrev bufM : Memref sig .tc .vmem S2x32x1024 .f32 := Memref.whole cc0_scratch0

/-- The rows of chunk `q`. -/
abbrev chunkR (q : Dev nD) : Rect S1024x1024 := Rect.unit (s := S1024x1024) ![32 * q.val, 0] S32x1024.size (chunk_inb q)
/-- Chunk `q` of the output buffer. -/
abbrev chunkM (q : Dev nD) : Memref sig .tc .vmem S32x1024 .f32 := outM.slice (chunkR q) (fun _ => rfl)
/-- Slot `p` of the receive buffer, as the loads name it, -/
abbrev slotR (p : Fin 2) : Rect S2x32x1024 := Rect.unit (s := S2x32x1024) ![p.val, 0, 0] S1x32x1024.size (slot_inb p)
abbrev slot3M (p : Fin 2) : Memref sig .tc .vmem S1x32x1024 .f32 := bufM.slice (slotR p) (fun _ => rfl)
/-- and as the transfers do. -/
abbrev slotM (p : Fin 2) : Memref sig .tc .vmem S32x1024 .f32 := (slot3M p).squeeze S32x1024 squeezes_S1x32x1024_S32x1024

/-- What a transfer of one chunk credits. -/
@[irreducible] def N : ℕ := (chunkM 0).view.dmaCredit
theorem N_pos : 0 < N := by unfold N; exact View.dmaCredit_pos _ (by decide)

/-! ## Contents -/

variable (P : Dev nD → Vec F S1024x1024 .f32)

/-- Chunk `q` of device `c`'s partial product. -/
def part (c q : Dev nD) : Vec F S32x1024 .f32 := fun j => P c ((chunkR q).emb j)

/-- What the reduction stores: its own chunk plus what came in. -/
def addC (a b : Vec F S32x1024 .f32) : Vec F S32x1024 .f32 := addf a b

/-- Chunk `q` summed over the devices `q, …, q + s`. -/
def acc (q : Dev nD) : ℕ → Vec F S32x1024 .f32
  | 0 => part P q q
  | s + 1 => addC (part P (fw q (s + 1)) q) (acc q s)

/-! ## The pieces as assertions -/

/-- Device `c` (or whoever holds this) has chunk `q` of `c`'s output buffer, reading `v`. -/
def chunkAt (c q : Dev nD) (v : Vec F S32x1024 .f32) : sProp 𝕄 := owns (c : Thread nD τ) (chunkM q) fullShare v
/-- The same at contents that do not matter. -/
def chunkAny (c q : Dev nD) : sProp 𝕄 := Release.slot ((chunkM q).view.loc (c : Thread nD τ)) (chunkM q).view.set
/-- Slot `p` of `c`'s receive buffer, reading `v`, -/
def slotAt (c : Dev nD) (p : Fin 2) (v : Vec F S32x1024 .f32) : sProp 𝕄 := owns (c : Thread nD τ) (slotM p) fullShare v
/-- or anything. -/
def slotAny (c : Dev nD) (p : Fin 2) : sProp 𝕄 := Release.slot ((slotM p).view.loc (c : Thread nD τ)) (slotM p).view.set

instance (c q : Dev nD) (v : Vec F S32x1024 .f32) : BI.Storable (upEmb : UEmb _ 𝕄) (chunkAt c q v) := by unfold chunkAt; infer_instance
instance (c q : Dev nD) : BI.Storable (upEmb : UEmb _ 𝕄) (chunkAny (F := F) c q) := by unfold chunkAny; infer_instance
instance (c : Dev nD) (p : Fin 2) (v : Vec F S32x1024 .f32) : BI.Storable (upEmb : UEmb _ 𝕄) (slotAt c p v) := by unfold slotAt; infer_instance
instance slotAny_storable (c : Dev nD) (p : Fin 2) : BI.Storable (upEmb : UEmb _ 𝕄) (slotAny (F := F) c p) := by unfold slotAny; infer_instance

/-! ## The semaphores -/

/-- The reduce-scatter's send and receive semaphores, per slot, -/
def rsSend (p : Fin 2) : DmaSem sig := ⟨6 + p.val, by have := p.isLt; show _ < 72; omega⟩
def rsRecv (p : Fin 2) : DmaSem sig := ⟨8 + p.val, by have := p.isLt; show _ < 72; omega⟩
/-- the all-gather's, per step, -/
def agSend (t : ℕ) : DmaSem sig := ⟨10 + t % 31, by show _ < 72; omega⟩
def agRecv (t : ℕ) : DmaSem sig := ⟨41 + t % 31, by show _ < 72; omega⟩
/-- the credits of the reduce-scatter, the barrier. -/
abbrev crS : Sem sig := (cc0_scratch5 : Sems sig S_).sem
abbrev barS : Sem sig := (SemArray.scalar (sig.barrier 0 rfl) : Sems sig S_).sem

abbrev rsSendC (c : Dev nD) (p : Fin 2) : GSem nD τ sig := ((c : Thread nD τ), .dma (rsSend p))
abbrev rsRecvC (c : Dev nD) (p : Fin 2) : GSem nD τ sig := ((c : Thread nD τ), .dma (rsRecv p))
abbrev agSendC (c : Dev nD) (t : ℕ) : GSem nD τ sig := ((c : Thread nD τ), .dma (agSend t))
abbrev agRecvC (c : Dev nD) (t : ℕ) : GSem nD τ sig := ((c : Thread nD τ), .dma (agRecv t))
abbrev crC (c : Dev nD) : GSem nD τ sig := ((c : Thread nD τ), .reg crS)
abbrev barC (c : Dev nD) : GSem nD τ sig := ((c : Thread nD τ), .reg barS)

/-- What a semaphore is for. -/
inductive Role where
  | bar | cr
  | rsS (p : ℕ) | rsR (p : ℕ)
  | agS (t : ℕ) | agR (t : ℕ)
  | none
  deriving DecidableEq

/-- Read off its number. -/
def role : SemLoc sig → Role
  | .reg s => if s = barS then .bar else .cr
  | .dma s =>
    if s.val < 6 then .none else if s.val < 8 then .rsS (s.val - 6) else if s.val < 10 then .rsR (s.val - 8)
    else if s.val < 41 then .agS (s.val - 10) else .agR (s.val - 41)

theorem role_bar : role (.reg barS) = .bar := by simp [role]
theorem role_cr : role (.reg crS) = .cr := by decide
theorem role_rsS (p : Fin 2) : role (.dma (rsSend p)) = .rsS p.val := by revert p; decide
theorem role_rsR (p : Fin 2) : role (.dma (rsRecv p)) = .rsR p.val := by revert p; decide
theorem role_agS {t : ℕ} (h : t < 31) : role (.dma (agSend t)) = .agS t := by
  simp only [role, agSend, Nat.mod_eq_of_lt h]
  rw [if_neg (by omega), if_neg (by omega), if_neg (by omega), if_pos (by omega)]; congr 1; omega
theorem role_agR {t : ℕ} (h : t < 31) : role (.dma (agRecv t)) = .agR t := by
  simp only [role, agRecv, Nat.mod_eq_of_lt h]
  rw [if_neg (by omega), if_neg (by omega), if_neg (by omega), if_neg (by omega)]; congr 1; omega

/-! ## What the signals carry -/

/-- What step `t`'s transfer into device `d` needs to have heard: that `d` has released the slot, and that the round of
    the receive semaphore it pays is open. -/
def need (d : Dev nD) (t : ℕ) : sProp 𝕄 :=
  iprop(Release.released ES (d, cur t) (t / 2 + 1) ∗ reached ER (rsRecvC d (cur t)) (t / 2))

/-- The barrier signal from the left: the left neighbour's credit semaphore is open. -/
def barPayL (c : Dev nD) : sProp 𝕄 := reached ER (crC (left c)) 0
/-- The barrier signal from the right: its first two slots may be written, its all-gather semaphores are open. -/
def barPayR (c : Dev nD) : sProp 𝕄 :=
  iprop(need (right c) 0 ∗ need (right c) 1 ∗ bigSep (Finset.range 31) fun t => reached ER (agRecvC (right c) t) 0)
/-- Credit `j` to `c`: all the slots its right neighbour has released so far. -/
def crPay (c : Dev nD) (j : ℕ) : sProp 𝕄 := bigSep (Finset.range (j + 1)) fun i => need (right c) (i + 2)

/-- The baggage of chunk `q`: the chunk on the devices `q + k`, `k ∈ K`. -/
def baggage (q : Dev nD) (K : Finset ℕ) : sProp 𝕄 := bigSep K fun k => chunkAny (fw q k) q

/-- What lands on device `c` at step `s` of the reduce-scatter: the chunk summed so far, and its baggage. -/
def rsPay (c : Dev nD) (s : ℕ) : sProp 𝕄 :=
  iprop(slotAt c (cur s) (acc P (bk c (s + 1)) s) ∗ baggage (bk c (s + 1)) (Finset.range (s + 1)))
/-- What lands on device `c` at step `t` of the all-gather: the chunk's sum, in place, and the baggage still to serve. -/
def agPay (c : Dev nD) (t : ℕ) : sProp 𝕄 :=
  iprop(chunkAt c (bk c t) (acc P (bk c t) 31) ∗ baggage (bk c t) (Finset.Ico (t + 1) 31))
/-- What the all-gather's send semaphore gives back at step `t`: the chunk sent. -/
def agBack (c : Dev nD) (t : ℕ) : sProp 𝕄 := chunkAt c (bk c (31 + t)) (acc P (bk c (31 + t)) 31)

instance need_storable (d : Dev nD) (t : ℕ) : BI.Storable (upEmb : UEmb _ 𝕄) (need (F := F) d t) := by unfold need; infer_instance
instance need_persistent (d : Dev nD) (t : ℕ) : BI.Persistent (need (F := F) d t) := by unfold need; infer_instance
instance crPay_persistent (d : Dev nD) (t : ℕ) : BI.Persistent (crPay (F := F) d t) := by unfold crPay; infer_instance

/-! ## The schedule -/

/-- The duties of a role's round `r`. -/
def dutiesOf : Role → ℕ → Finset ℕ
  | .bar, r => if r = 0 then {0, 1} else ∅
  | .cr, r => if r = 0 then Finset.range 29 else ∅
  | .rsS p, r => if 2 * r + p ≤ 30 then {0} else ∅
  | .rsR p, r => if 2 * r + p ≤ 30 then {0} else ∅
  | .agS _, r => if r = 0 then {0} else ∅
  | .agR _, r => if r = 0 then {0} else ∅
  | .none, _ => ∅

def amountOf : Role → ℕ
  | .bar => 1
  | .cr => 1
  | _ => N

def payOf (c : Dev nD) : Role → ℕ → ℕ → sProp 𝕄
  | .bar, _, d => if d = 0 then barPayL c else barPayR c
  | .cr, _, d => crPay c d
  | .rsS _, _, _ => iprop(emp)
  | .rsR p, r, _ => rsPay P c (2 * r + p)
  | .agS t, _, _ => agBack P c t
  | .agR t, _, _ => agPay P c t
  | .none, _, _ => iprop(emp)

theorem amountOf_pos (k : Role) : 0 < amountOf k := by
  cases k <;> first | exact Nat.one_pos | exact N_pos

/-- The ring's schedule, on every device. -/
def Rd : Schedule (GSem nD τ sig) ℕ 𝕄 where
  duties g r := if g.1.2 = .tc then dutiesOf (role g.2) r else ∅
  amount g _ _ := amountOf (role g.2)
  payload g r d := payOf P g.1.1 (role g.2) r d
  amount_pos g _ _ _ := amountOf_pos _

instance payOf_storable (c : Dev nD) (k : Role) (r d : ℕ) : BI.Storable (upEmb : UEmb _ 𝕄) (payOf P c k r d) := by
  cases k <;> simp only [payOf, barPayL, barPayR, crPay, rsPay, agPay, agBack, baggage] <;> (repeat' split) <;> infer_instance

instance Rd_storable (g : GSem nD τ sig) (r d : ℕ) : BI.Storable (upEmb : UEmb _ 𝕄) ((Rd P).payload g r d) := payOf_storable P _ _ _ _

end Cert.RingProof

end
-- ==== Proof.Sched.lean ====
/-
  The ring's schedule read cell by cell, the levels that order the waits, and what each device owes.

  A unit of credit has an index that says which event raises it, and its level is the index itself: 1 for the barrier,
  `2 s + 2` for what lands at step `s`, `2 j + 3` for credit `j`. A device waits at an index below all that it still owes.
-/
module

public import proofs.«01_k».proof.Proof.Common
public import Mathlib.Algebra.BigOperators.Intervals

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Around the ring -/

theorem cur_val (t : ℕ) : (cur t).val = t % 2 := rfl
theorem cur_two (t : ℕ) : cur (t + 2) = cur t := Fin.ext (by simp only [cur]; omega)
theorem half_two (t : ℕ) : (t + 2) / 2 = t / 2 + 1 := by omega
theorem cur_half (p : Fin 2) (r : ℕ) : cur (2 * r + p.val) = p := Fin.ext (by have := p.isLt; simp only [cur]; omega)
theorem half_cur (t : ℕ) : 2 * (t / 2) + (cur t).val = t := by simp only [cur]; omega

theorem bk_right (c : Dev nD) {t : ℕ} (h : t < 96) : bk (right c) (t + 1) = bk c t := by
  apply Fin.ext; have := c.isLt; simp only [bk, fw, nD] at *; omega
theorem fw_bk (c : Dev nD) {t : ℕ} (h : t ≤ 96) : fw (bk c t) t = c := by
  apply Fin.ext; have := c.isLt; simp only [bk, fw, nD] at *; omega
theorem bk_inj (c : Dev nD) {s t : ℕ} (hs : s < 32) (ht : t < 32) (h : bk c s = bk c t) : s = t := by
  have := congrArg Fin.val h; have := c.isLt; simp only [bk, nD] at *; omega
theorem bk_zero (c : Dev nD) : bk c 0 = c := by
  apply Fin.ext; have := c.isLt; simp only [bk, nD] at *; omega
theorem bk_add (c : Dev nD) {t : ℕ} (h : t ≤ 64) : bk c (32 + t) = bk c t := by
  apply Fin.ext; have := c.isLt; simp only [bk, nD] at *; omega
theorem fw_bk31 (c : Dev nD) {t : ℕ} (h : t ≤ 31) : fw (bk c (31 + t)) t = right c := by
  apply Fin.ext; have := c.isLt; simp only [bk, fw, nD] at *; omega

/-! ## The schedule, cell by cell -/

variable (P : Dev nD → Vec F S1024x1024 .f32)

theorem duties_bar (c : Dev nD) : (Rd P).duties (barC c) 0 = {0, 1} := rfl
theorem duties_cr (c : Dev nD) : (Rd P).duties (crC c) 0 = Finset.range 29 := by
  simp [Rd, role_cr, dutiesOf]
theorem duties_rsS (c : Dev nD) {t : ℕ} (h : t < 31) : (Rd P).duties (rsSendC c (cur t)) (t / 2) = {0} := by
  simp only [Rd, role_rsS, dutiesOf, if_true]; exact if_pos (by simp only [cur]; omega)
theorem duties_rsR (c : Dev nD) {t : ℕ} (h : t < 31) : (Rd P).duties (rsRecvC c (cur t)) (t / 2) = {0} := by
  simp only [Rd, role_rsR, dutiesOf, if_true]; exact if_pos (by simp only [cur]; omega)
theorem duties_agS (c : Dev nD) {t : ℕ} (h : t < 31) : (Rd P).duties (agSendC c t) 0 = {0} := by
  simp only [Rd, role_agS h, dutiesOf, if_true]
theorem duties_agR (c : Dev nD) {t : ℕ} (h : t < 31) : (Rd P).duties (agRecvC c t) 0 = {0} := by
  simp only [Rd, role_agR h, dutiesOf, if_true]

theorem amount_rsS (c : Dev nD) (p : Fin 2) (r d : ℕ) : (Rd P).amount (rsSendC c p) r d = N := by simp only [Rd, role_rsS, amountOf]
theorem amount_rsR (c : Dev nD) (p : Fin 2) (r d : ℕ) : (Rd P).amount (rsRecvC c p) r d = N := by simp only [Rd, role_rsR, amountOf]
theorem amount_agS (c : Dev nD) {t : ℕ} (h : t < 31) (r d : ℕ) : (Rd P).amount (agSendC c t) r d = N := by simp only [Rd, role_agS h, amountOf]
theorem amount_agR (c : Dev nD) {t : ℕ} (h : t < 31) (r d : ℕ) : (Rd P).amount (agRecvC c t) r d = N := by simp only [Rd, role_agR h, amountOf]
theorem amount_bar (c : Dev nD) (r d : ℕ) : (Rd P).amount (barC c) r d = 1 := by simp only [Rd, role_bar, amountOf]
theorem amount_cr (c : Dev nD) (r d : ℕ) : (Rd P).amount (crC c) r d = 1 := by simp only [Rd, role_cr, amountOf]

theorem expect_bar (c : Dev nD) : (Rd P).expect (barC c) 0 = 2 := by
  unfold Schedule.expect; rw [duties_bar]; simp [Schedule.amountOf, amount_bar]
theorem expect_cr (c : Dev nD) : (Rd P).expect (crC c) 0 = 29 := by
  unfold Schedule.expect; rw [duties_cr]; simp [Schedule.amountOf, amount_cr]
theorem expect_rsS (c : Dev nD) {t : ℕ} (h : t < 31) : (Rd P).expect (rsSendC c (cur t)) (t / 2) = N := by
  unfold Schedule.expect; rw [duties_rsS P c h]; simp [Schedule.amountOf, amount_rsS]
theorem expect_rsR (c : Dev nD) {t : ℕ} (h : t < 31) : (Rd P).expect (rsRecvC c (cur t)) (t / 2) = N := by
  unfold Schedule.expect; rw [duties_rsR P c h]; simp [Schedule.amountOf, amount_rsR]
theorem expect_agS (c : Dev nD) {t : ℕ} (h : t < 31) : (Rd P).expect (agSendC c t) 0 = N := by
  unfold Schedule.expect; rw [duties_agS P c h]; simp [Schedule.amountOf, amount_agS P c h]
theorem expect_agR (c : Dev nD) {t : ℕ} (h : t < 31) : (Rd P).expect (agRecvC c t) 0 = N := by
  unfold Schedule.expect; rw [duties_agR P c h]; simp [Schedule.amountOf, amount_agR P c h]

theorem pay_bar0 (c : Dev nD) : (Rd P).payload (barC c) 0 0 = barPayL c := by simp only [Rd, role_bar, payOf, if_true]
theorem pay_bar1 (c : Dev nD) : (Rd P).payload (barC c) 0 1 = barPayR c := by
  simp only [Rd, role_bar, payOf]; exact if_neg (by decide)
theorem pay_cr (c : Dev nD) (r d : ℕ) : (Rd P).payload (crC c) r d = crPay c d := by simp only [Rd, role_cr, payOf]
theorem pay_rsS (c : Dev nD) (p : Fin 2) (r d : ℕ) : (Rd P).payload (rsSendC c p) r d = iprop(emp) := by simp only [Rd, role_rsS, payOf]
theorem pay_rsR (c : Dev nD) (t d : ℕ) : (Rd P).payload (rsRecvC c (cur t)) (t / 2) d = rsPay P c t := by
  simp only [Rd, role_rsR, payOf, half_cur]
theorem pay_agS (c : Dev nD) {t : ℕ} (h : t < 31) (r d : ℕ) : (Rd P).payload (agSendC c t) r d = agBack P c t := by simp only [Rd, role_agS h, payOf]
theorem pay_agR (c : Dev nD) {t : ℕ} (h : t < 31) (r d : ℕ) : (Rd P).payload (agRecvC c t) r d = agPay P c t := by simp only [Rd, role_agR h, payOf]

/-- What a wait for the one duty of a round brings. -/
theorem rest_one {g : GSem nD τ sig} {r : ℕ} (h : (Rd P).duties g r = {0}) :
    bigSep ((Rd P).duties g r \ ∅) (fun d => (Rd P).payload g r d) = (Rd P).payload g r 0 := by
  rw [h, Finset.sdiff_empty]; exact bigSep_singleton

theorem rest_bar (c : Dev nD) :
    bigSep ((Rd P).duties (barC c) 0 \ ∅) (fun d => (Rd P).payload (barC c) 0 d) ⊢ (iprop(barPayL c ∗ barPayR c) : sProp 𝕄) := by
  rw [duties_bar, Finset.sdiff_empty, bigSep_insert (by decide), pay_bar0, bigSep_singleton, pay_bar1]
  exact .rfl

/-- No round has a duty from here on: the cells past their last round. -/
theorem done_bar (c : Dev nD) : ∀ r, 1 ≤ r → (Rd P).duties (barC c) r = ∅ := fun r h => by
  simp only [Rd, role_bar, dutiesOf, if_true]; exact if_neg (by omega)
theorem done_cr (c : Dev nD) : ∀ r, 1 ≤ r → (Rd P).duties (crC c) r = ∅ := fun r h => by
  simp only [Rd, role_cr, dutiesOf, if_true]; exact if_neg (by omega)
theorem done_rsS (c : Dev nD) (p : Fin 2) {n : ℕ} (h : 31 ≤ 2 * n + p.val) : ∀ r, n ≤ r → (Rd P).duties (rsSendC c p) r = ∅ := fun r hr => by
  simp only [Rd, role_rsS, dutiesOf, if_true]; exact if_neg (by omega)
theorem done_rsR (c : Dev nD) (p : Fin 2) {n : ℕ} (h : 31 ≤ 2 * n + p.val) : ∀ r, n ≤ r → (Rd P).duties (rsRecvC c p) r = ∅ := fun r hr => by
  simp only [Rd, role_rsR, dutiesOf, if_true]; exact if_neg (by omega)
theorem done_agS (c : Dev nD) {t : ℕ} (h : t < 31) : ∀ r, 1 ≤ r → (Rd P).duties (agSendC c t) r = ∅ := fun r hr => by
  simp only [Rd, role_agS h, dutiesOf, if_true]; exact if_neg (by omega)
theorem done_agR (c : Dev nD) {t : ℕ} (h : t < 31) : ∀ r, 1 ≤ r → (Rd P).duties (agRecvC c t) r = ∅ := fun r hr => by
  simp only [Rd, role_agR h, dutiesOf, if_true]; exact if_neg (by omega)

/-! ## Levels and dues -/

/-- Every index below 200 has a level on a TensorCore's cells: itself. -/
def L (g : GSem nD τ sig) : Finset ℕ := if g.1.2 = .tc then Finset.range 200 else ∅
def lv (_ : GSem nD τ sig) (u : ℕ) : ℕ := u

theorem mem_L {c : Dev nD} {sm : SemLoc sig} {i : ℕ} (h : i < 200) : i ∈ L (((c : Thread nD τ), sm) : GSem nD τ sig) := by
  simp only [L, if_true]; exact Finset.mem_range.mpr h

abbrev Tal : Type := CellTallies nD τ sig ℕ

/-- What device `c` owes to the right neighbour's receive semaphore at step `s` of the reduce-scatter, -/
def owRS (c : Dev nD) (s : ℕ) : Tal := tallyAt (rsRecvC (right c) (cur s)) (2 * s + 2) N
/-- the left neighbour's credit `j`, -/
def owCr (c : Dev nD) (j : ℕ) : Tal := tallyAt (crC (left c)) (2 * j + 3) 1
/-- the right neighbour's receive semaphore at step `t` of the all-gather, -/
def owAG (c : Dev nD) (t : ℕ) : Tal := tallyAt (agRecvC (right c) t) (2 * (31 + t) + 2) N
/-- and the neighbours' barriers. -/
def owBL (c : Dev nD) : Tal := tallyAt (barC (left c)) 1 1
def owBR (c : Dev nD) : Tal := tallyAt (barC (right c)) 1 1

/-- What is owed with `a` transfers and `b` credits of the reduce-scatter and `e` transfers of the all-gather done. -/
def owing (c : Dev nD) (a b e : ℕ) : Tal :=
  (∑ s ∈ Finset.Ico a 31, owRS c s) + (∑ j ∈ Finset.Ico b 29, owCr c j) + (∑ t ∈ Finset.Ico e 31, owAG c t)

/-- What device `c` owes at launch. -/
def O₀ (c : Dev nD) : Tal := owing c 0 0 0 + owBR c + owBL c

theorem owing_rs (c : Dev nD) {a b e : ℕ} (h : a < 31) : owing c a b e = owing c (a + 1) b e + owRS c a := by
  unfold owing; rw [Finset.sum_eq_sum_Ico_succ_bot h]; ac_rfl
theorem owing_cr (c : Dev nD) {a b e : ℕ} (h : b < 29) : owing c a b e = owing c a (b + 1) e + owCr c b := by
  unfold owing; rw [Finset.sum_eq_sum_Ico_succ_bot (a := b) h]; ac_rfl
theorem owing_ag (c : Dev nD) {a b e : ℕ} (h : e < 31) : owing c a b e = owing c a b (e + 1) + owAG c e := by
  unfold owing; rw [Finset.sum_eq_sum_Ico_succ_bot (a := e) h]; ac_rfl
theorem owing_cr_end (c : Dev nD) {a b b' e : ℕ} (h : 29 ≤ b) (h' : 29 ≤ b') : owing c a b e = owing c a b' e := by
  unfold owing; rw [Finset.Ico_eq_empty_of_le h, Finset.Ico_eq_empty_of_le h']
theorem owing_done (c : Dev nD) {a b e : ℕ} (ha : 31 ≤ a) (hb : 29 ≤ b) (he : 31 ≤ e) : owing c a b e = 0 := by
  unfold owing; rw [Finset.Ico_eq_empty_of_le ha, Finset.Ico_eq_empty_of_le hb, Finset.Ico_eq_empty_of_le he]; simp only [Finset.sum_empty, add_zero]

theorem sum_pos {α : Type} (s : Finset α) (D : α → Tal) {g : GSem nD τ sig} {i : ℕ} (h : 0 < (∑ a ∈ s, D a) g i) :
    ∃ a ∈ s, 0 < D a g i := by
  classical
  by_contra hn
  push Not at hn
  have : (∑ a ∈ s, D a) g i = 0 := by
    rw [Finset.sum_apply, Finsupp.finsetSum_apply]
    exact Finset.sum_eq_zero fun a ha => Nat.le_zero.mp (hn a ha)
  omega

/-- Whatever is owed lies on a TensorCore's cell, at an index of one of the three kinds. -/
theorem owing_pos (c : Dev nD) {a b e : ℕ} {g : GSem nD τ sig} {i : ℕ} (h : 0 < owing c a b e g i) :
    g.1.2 = .tc ∧ i < 200 ∧ ((a < 31 ∧ 2 * a + 2 ≤ i) ∨ (b < 29 ∧ 2 * b + 3 ≤ i) ∨ (e < 31 ∧ 2 * (31 + e) + 2 ≤ i)) := by
  have h' : 0 < (∑ s ∈ Finset.Ico a 31, owRS c s) g i ∨ 0 < (∑ j ∈ Finset.Ico b 29, owCr c j) g i
      ∨ 0 < (∑ t ∈ Finset.Ico e 31, owAG c t) g i := by
    unfold owing at h; simp only [Pi.add_apply, Finsupp.add_apply] at h; omega
  rcases h' with h | h | h
  · obtain ⟨s, hs, h⟩ := sum_pos _ _ h
    obtain ⟨rfl, rfl⟩ := Pipeline.tallyAt_pos h
    have := Finset.mem_Ico.mp hs
    exact ⟨rfl, by omega, .inl ⟨by omega, by omega⟩⟩
  · obtain ⟨s, hs, h⟩ := sum_pos _ _ h
    obtain ⟨rfl, rfl⟩ := Pipeline.tallyAt_pos h
    have := Finset.mem_Ico.mp hs
    exact ⟨rfl, by omega, .inr (.inl ⟨by omega, by omega⟩)⟩
  · obtain ⟨s, hs, h⟩ := sum_pos _ _ h
    obtain ⟨rfl, rfl⟩ := Pipeline.tallyAt_pos h
    have := Finset.mem_Ico.mp hs
    exact ⟨rfl, by omega, .inr (.inr ⟨by omega, by omega⟩)⟩

/-- A device may wait at an index below everything it owes. -/
theorem mayWait (c : Dev nD) (sm : SemLoc sig) (i : ℕ) {a b e : ℕ} (ha : a < 31 → i < 2 * a + 2) (hb : b < 29 → i < 2 * b + 3)
    (he : e < 31 → i < 2 * (31 + e) + 2) (hi : i < 200) :
    (levAts L lv : sProp 𝕄) ⊢ MayWait (c : Thread nD τ) sm i (owing c a b e) :=
  MayOwe.of_levAts
    (fun p hp => by rw [Finset.mem_singleton.mp hp]; exact mem_L hi)
    (fun g u hu => by
      obtain ⟨h1, h2, -⟩ := owing_pos c hu
      simp only [L, if_pos h1]; exact Finset.mem_range.mpr h2)
    (fun g u hu p hp => by
      obtain ⟨-, -, h⟩ := owing_pos c hu
      rw [Finset.mem_singleton.mp hp]; show i < u
      rcases h with ⟨h1, h2⟩ | ⟨h1, h2⟩ | ⟨h1, h2⟩
      · exact lt_of_lt_of_le (ha h1) h2
      · exact lt_of_lt_of_le (hb h1) h2
      · exact lt_of_lt_of_le (he h1) h2)

end Cert.RingProof

end
-- ==== Proof.Pieces.lean ====
/-
  The pieces of memory and the semaphores as the kernel's text names them: at offsets that are terms of the device and the
  trip, equal to the closed forms of the protocol.
-/
module

public import proofs.«01_k».proof.Proof.Sched

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What the transfers credit -/

theorem credit_chunk (q : Dev nD) : (chunkM q).view.dmaCredit = N := by unfold N; rfl
theorem credit_slot (p : Fin 2) : (slotM p).view.dmaCredit = N := by unfold N; rfl

/-! ## The kernel's names for the semaphores -/

theorem rsSend_eq (p : Fin 2) {off : Fin 1 → ℕ} (h : off = ![p.val]) (inb : ∀ a, off a + S1.size a ≤ S2.size a) :
    (((cc0_scratch1 : DmaSems sig S2).slice (Rect.unit (s := S2) off S1.size inb)).squeeze S_ squeezes_S1_S_).sem = rsSend p := by
  subst h; revert inb; revert p; decide
theorem rsRecv_eq (p : Fin 2) {off : Fin 1 → ℕ} (h : off = ![p.val]) (inb : ∀ a, off a + S1.size a ≤ S2.size a) :
    (((cc0_scratch2 : DmaSems sig S2).slice (Rect.unit (s := S2) off S1.size inb)).squeeze S_ squeezes_S1_S_).sem = rsRecv p := by
  subst h; revert inb; revert p; decide
theorem agSend_fin : ∀ (t : Fin 31) (inb : ∀ a, (![t.val] : Fin 1 → ℕ) a + S1.size a ≤ S31.size a),
    (((cc0_scratch3 : DmaSems sig S31).slice (Rect.unit (s := S31) ![t.val] S1.size inb)).squeeze S_ squeezes_S1_S_).sem = agSend t.val := by decide
theorem agRecv_fin : ∀ (t : Fin 31) (inb : ∀ a, (![t.val] : Fin 1 → ℕ) a + S1.size a ≤ S31.size a),
    (((cc0_scratch4 : DmaSems sig S31).slice (Rect.unit (s := S31) ![t.val] S1.size inb)).squeeze S_ squeezes_S1_S_).sem = agRecv t.val := by decide
theorem agSend_eq {t : ℕ} (ht : t < 31) {off : Fin 1 → ℕ} (h : off = ![t]) (inb : ∀ a, off a + S1.size a ≤ S31.size a) :
    (((cc0_scratch3 : DmaSems sig S31).slice (Rect.unit (s := S31) off S1.size inb)).squeeze S_ squeezes_S1_S_).sem = agSend t := by
  subst h; exact agSend_fin ⟨t, ht⟩ inb
theorem agRecv_eq {t : ℕ} (ht : t < 31) {off : Fin 1 → ℕ} (h : off = ![t]) (inb : ∀ a, off a + S1.size a ≤ S31.size a) :
    (((cc0_scratch4 : DmaSems sig S31).slice (Rect.unit (s := S31) off S1.size inb)).squeeze S_ squeezes_S1_S_).sem = agRecv t := by
  subst h; exact agRecv_fin ⟨t, ht⟩ inb

/-! ## The kernel's names for the pieces -/

theorem off3_eq (c : Dev nD) (t : Fin k0_t1_loop.trips) (ht : t.val < 31) : k0_off3 c t = ![32 * (bk c t.val).val, 0] := by
  rw [k0_off3_eq]; have := c.isLt; simp only [nD] at this
  rw [show (c.val + 64 - t.val) % 32 = (bk c t.val).val from by simp only [bk]; omega]
theorem off4_eq (c : Dev nD) (t : Fin k0_t1_loop.trips) (ht : t.val < 31) : k0_off4 c t = ![32 * (bk c (t.val + 1)).val, 0] := by
  rw [k0_off4_eq]; have := c.isLt; simp only [nD] at this
  rw [show (c.val + 63 - t.val) % 32 = (bk c (t.val + 1)).val from by simp only [bk]; omega]
theorem off7_eq (c : Dev nD) (t : Fin k0_t2_loop.trips) (ht : t.val < 31) : k0_off7 c t = ![32 * (bk c (31 + t.val)).val, 0] := by
  rw [k0_off7_eq]; have := c.isLt; simp only [nD] at this
  rw [show (c.val + 65 - t.val) % 32 = (bk c (31 + t.val)).val from by simp only [bk]; omega]
theorem trips1 : k0_t1_loop.trips = 31 := by decide
theorem trips2 : k0_t2_loop.trips = 31 := by decide

/-! ## Chunks of the output buffer -/

/-- Two pieces of one buffer at anything: not both. -/
theorem slotAny_false (c : Dev nD) (p : Fin 2) : iprop(slotAny (F := F) c p ∗ slotAny c p) ⊢ (False : sProp 𝕄) := by
  unfold slotAny
  exact Release.slot_slot_false ⟨(slotM p).view.emb (fun a => ⟨0, by fin_cases a <;> decide⟩), Finset.mem_map_of_mem _ (Finset.mem_univ _)⟩

theorem chunkAt_any (c q : Dev nD) (v : Vec F S32x1024 .f32) : chunkAt c q v ⊢ (chunkAny c q : sProp 𝕄) := by
  unfold chunkAt chunkAny owns Release.slot
  iintro ⟨%f, -, H⟩; iexists f; iexact H
theorem slotAt_any (c : Dev nD) (p : Fin 2) (v : Vec F S32x1024 .f32) : slotAt c p v ⊢ (slotAny c p : sProp 𝕄) := by
  unfold slotAt slotAny owns Release.slot
  iintro ⟨%f, -, H⟩; iexists f; iexact H

/-- The chunks cover the output buffer, -/
theorem chunks_cover : (Finset.univ : Finset (Dev nD)).biUnion (fun q => (chunkR q).set) = Finset.univ := by
  ext i; simp only [Finset.mem_biUnion, Finset.mem_univ, true_and, iff_true]
  have h0 : (i 0).val < 1024 := (i 0).isLt
  have h1 : (i 1).val < 1024 := (i 1).isLt
  refine ⟨⟨(i 0).val / 32, by show _ < 32; omega⟩, Rect.mem_set_unit.mpr fun a => ?_⟩
  fin_cases a
  · show 32 * ((i 0).val / 32) ≤ (i 0).val ∧ (i 0).val < 32 * ((i 0).val / 32) + 32; omega
  · show 0 ≤ (i 1).val ∧ (i 1).val < 0 + 1024; omega
/-- and do not meet. -/
theorem chunks_disjoint (q q' : Dev nD) (h : q ≠ q') : Disjoint (chunkR q).set (chunkR q').set := by
  have hv : q.val ≠ q'.val := fun e => h (Fin.ext e)
  refine Rect.unit_disjoint 0 ?_
  show 32 * q.val + 32 ≤ 32 * q'.val ∨ 32 * q'.val + 32 ≤ 32 * q.val
  omega

/-- The output buffer at contents `X` is its chunks at their parts of `X`. -/
theorem out_split (c : Dev nD) (X : Vec F S1024x1024 .f32) :
    (((c : Thread nD τ).loc cc0_stg5_0) ↦{fullShare} X : sProp 𝕄)
      ⊢ bigSep Finset.univ fun q => chunkAt c q (fun j => X ((chunkR q).emb j)) := by
  rw [← owns_whole (c : Thread nD τ) cc0_stg5_0 fullShare X]
  exact owns_rects (c : Thread nD τ) outM fullShare chunkR (fun _ _ => rfl) chunks_disjoint chunks_cover X
theorem out_join (c : Dev nD) (X : Vec F S1024x1024 .f32) :
    (bigSep Finset.univ fun q => chunkAt c q (fun j => X ((chunkR q).emb j)))
      ⊢ (((c : Thread nD τ).loc cc0_stg5_0) ↦{fullShare} X : sProp 𝕄) := by
  rw [← owns_whole (c : Thread nD τ) cc0_stg5_0 fullShare X]
  exact owns_of_rects (c : Thread nD τ) outM fullShare chunkR (fun _ _ => rfl) chunks_disjoint chunks_cover X

/-- The chunks in the order in which device `c` comes by them. -/
theorem chunks_order (c : Dev nD) (k : ℕ) (hk : k ≤ 31) (Φ : Dev nD → sProp 𝕄) :
    bigSep Finset.univ Φ = bigSep (Finset.range 32) fun s => Φ (bk c (k + s)) := by
  have himg : (Finset.range 32).image (fun s => bk c (k + s)) = Finset.univ := by
    ext q; simp only [Finset.mem_image, Finset.mem_range, Finset.mem_univ, iff_true]
    have := c.isLt; have := q.isLt
    refine ⟨(c.val + 96 - k + 32 - q.val) % 32, by omega, Fin.ext ?_⟩
    simp only [bk, nD] at *; omega
  rw [← himg]
  have hinj : Set.InjOn (fun s => bk c (k + s)) (Finset.range 32 : Finset ℕ) := fun s hs t ht h => by
    have hs' : s < 32 := Finset.mem_range.mp hs
    have ht' : t < 32 := Finset.mem_range.mp ht
    have := congrArg Fin.val h; have := c.isLt; simp only [bk, nD] at *; omega
  exact Idealize.SL.BI.bigSep_image_of_injOn hinj Φ

end Cert.RingProof

end
-- ==== Proof.Steps.lean ====
/-
  The effects of the kernel's two passes, one lemma each: a transfer, a wait, a load or a store at its step, between what the
  protocol says of the pieces of memory before and after. Offsets, semaphores and the neighbour are taken as whatever the
  program computes, with the equation that says what they are.
-/
module

public import proofs.«01_k».proof.Proof.Sched
public import proofs.«01_k».proof.Proof.Pieces

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- One of many, -/
theorem pick {I : Type} [DecidableEq I] {s : Finset I} {i : I} {Φ : I → sProp 𝕄} (h : i ∈ s) : (bigSep s Φ : sProp 𝕄) ⊢ Φ i :=
  BI.bigSep_elim h
/-- and many at once. -/
theorem onEach {I : Type} {s : Finset I} {Φ Ψ : I → sProp 𝕄} (h : ∀ i ∈ s, Φ i ⊢ Ψ i) : (bigSep s Φ : sProp 𝕄) ⊢ bigSep s Ψ :=
  BI.bigSep_mono h

/-! ## The shared context -/

/-- The kernel's own semaphores, by their use. -/
abbrev KO : Type := Fin 2 ⊕ Fin 2 ⊕ Fin 31 ⊕ Fin 31 ⊕ Unit
abbrev osem : KO → SemLoc sig
  | .inl p => .dma (rsSend p)
  | .inr (.inl p) => .dma (rsRecv p)
  | .inr (.inr (.inl t)) => .dma (agSend t.val)
  | .inr (.inr (.inr (.inl t))) => .dma (agRecv t.val)
  | .inr (.inr (.inr (.inr _))) => .reg crS

/-- The cells of the protocol: the barriers, open from launch, and the kernel's own. -/
def barCells : Finset (GSem nD τ sig) := Finset.univ.image barC
def ownCells : Finset (GSem nD τ sig) := Finset.univ.image fun x : Dev nD × KO => ((x.1 : Thread nD τ), osem x.2)

variable (P : Dev nD → Vec F S1024x1024 .f32) (κ : GSem nD τ sig → ℕ) (ι : Key → ℕ)

/-- What all devices share: the invariants of cells and slots, and the levels. -/
def ctx : sProp 𝕄 :=
  iprop((bigSep (barCells ∪ ownCells) fun g => cellInv ER (Rd P) (κ g) g)
    ∗ (bigSep Finset.univ fun k : Key => Release.slotInv ES (ι k) k (slotAny (F := F) k.1 k.2)) ∗ levAts L lv)

instance ctx_persistent : BI.Persistent (ctx P κ ι) := by unfold ctx; infer_instance

theorem ctx_cell {g : GSem nD τ sig} (h : g ∈ barCells ∪ ownCells) : ctx P κ ι ⊢ cellInv ER (Rd P) (κ g) g := by
  unfold ctx
  iintro ⟨H, -, -⟩
  iapply (pick (Φ := fun g => cellInv ER (Rd P) (κ g) g) h); iexact H
theorem ctx_own (c : Dev nD) (k : KO) : ctx P κ ι ⊢ cellInv ER (Rd P) (κ ((c : Thread nD τ), osem k)) ((c : Thread nD τ), osem k) :=
  ctx_cell P κ ι (Finset.mem_union_right _ (Finset.mem_image.mpr ⟨(c, k), Finset.mem_univ _, rfl⟩))
theorem ctx_bar (c : Dev nD) : ctx P κ ι ⊢ cellInv ER (Rd P) (κ (barC c)) (barC c) :=
  ctx_cell P κ ι (Finset.mem_union_left _ (Finset.mem_image.mpr ⟨c, Finset.mem_univ _, rfl⟩))
theorem ctx_rsS (c : Dev nD) (p : Fin 2) : ctx P κ ι ⊢ cellInv ER (Rd P) (κ (rsSendC c p)) (rsSendC c p) := ctx_own P κ ι c (.inl p)
theorem ctx_rsR (c : Dev nD) (p : Fin 2) : ctx P κ ι ⊢ cellInv ER (Rd P) (κ (rsRecvC c p)) (rsRecvC c p) := ctx_own P κ ι c (.inr (.inl p))
theorem ctx_agS (c : Dev nD) {t : ℕ} (h : t < 31) : ctx P κ ι ⊢ cellInv ER (Rd P) (κ (agSendC c t)) (agSendC c t) :=
  ctx_own P κ ι c (.inr (.inr (.inl ⟨t, h⟩)))
theorem ctx_agR (c : Dev nD) {t : ℕ} (h : t < 31) : ctx P κ ι ⊢ cellInv ER (Rd P) (κ (agRecvC c t)) (agRecvC c t) :=
  ctx_own P κ ι c (.inr (.inr (.inr (.inl ⟨t, h⟩))))
theorem ctx_cr (c : Dev nD) : ctx P κ ι ⊢ cellInv ER (Rd P) (κ (crC c)) (crC c) := ctx_own P κ ι c (.inr (.inr (.inr (.inr ()))))
theorem ctx_slot (c : Dev nD) (p : Fin 2) : ctx P κ ι ⊢ Release.slotInv ES (ι (c, p)) (c, p) (slotAny (F := F) c p) := by
  unfold ctx
  iintro ⟨-, H, -⟩
  iapply (pick (Φ := fun k : Key => Release.slotInv ES (ι k) k (slotAny (F := F) k.1 k.2)) (Finset.mem_univ (c, p))); iexact H
theorem ctx_lev : ctx P κ ι ⊢ (levAts L lv : sProp 𝕄) := by
  unfold ctx
  iintro ⟨-, -, H⟩; iexact H

/-- What device `c` owes, whatever it has waited for. -/
def ow (c : Dev nD) (O : Tal) : sProp 𝕄 := iprop(∃ W, owes (c : Thread nD τ) O W)

variable {α : Type}

/-! ## Loads and stores -/

/-- Loading chunk `q`. -/
theorem load_chunk {Q : α → sProp 𝕄} (c q : Dev nD) (v : Vec F S32x1024 .f32) {off : Fin 2 → ℕ} {inb} (hoff : off = ![32 * q.val, 0])
    {hl} {k : Vec F S32x1024 .f32 → Prog (TpuEff nD τ sig (Elt F) Λ₀ .tc) α} :
    chunkAt c q v ⊢ iprop((chunkAt c q v -∗ wp frame (wpE (defs₀ (F := F)) 𝒱₀ (c : Thread nD τ) none) Set.univ (k v) Q)
      -∗ wp frame (wpE (defs₀ (F := F)) 𝒱₀ (c : Thread nD τ) none) Set.univ (.op (.load outM (Rect.unit (s := S1024x1024) off S32x1024.size inb).toLoadRect hl) k) Q) := by
  subst hoff
  unfold chunkAt owns
  iintro ⟨%f, %hf, H⟩ Hk
  iapply (wp_load_rect 𝒱₀ (c : Thread nD τ) none Set.univ (m := outM) (r := chunkR q) (Finset.Subset.refl _)) $$ H
  iintro H
  rw [show (outM.access (chunkR q)).read (Elt F) f = v from hf]
  iapply Hk; iexists f
  isplitr; · ipureintro; exact hf
  iexact H

/-- Storing chunk `q`. -/
theorem store_chunk {Q : α → sProp 𝕄} (c q : Dev nD) (v w : Vec F S32x1024 .f32) {off : Fin 2 → ℕ} {inb} (hoff : off = ![32 * q.val, 0])
    {hx hm} {k : PUnit → Prog (TpuEff nD τ sig (Elt F) Λ₀ .tc) α} :
    chunkAt c q v ⊢ iprop((chunkAt c q w -∗ wp frame (wpE (defs₀ (F := F)) 𝒱₀ (c : Thread nD τ) none) Set.univ (k ⟨⟩) Q)
      -∗ wp frame (wpE (defs₀ (F := F)) 𝒱₀ (c : Thread nD τ) none) Set.univ (.op (.store outM (Rect.unit (s := S1024x1024) off S32x1024.size inb) w Finset.univ hx hm) k) Q) := by
  subst hoff
  unfold chunkAt owns
  iintro ⟨%f, %hf, H⟩ Hk
  iapply (wp_store 𝒱₀ (c : Thread nD τ) none Set.univ (m := outM) (r := chunkR q) (Mk := Finset.univ) (View.setOn_subset_set _ _)) $$ H
  iintro H
  iapply Hk; iexists _
  isplitr; swap
  · iexact H
  · ipureintro; exact View.read_write_univ _ _

/-- Loading slot `p`: the slot's rows with a leading axis of one. -/
theorem load_slot {Q : α → sProp 𝕄} (c : Dev nD) (p : Fin 2) (v : Vec F S32x1024 .f32) {off : Fin 3 → ℕ} {inb} (hoff : off = ![p.val, 0, 0])
    {hl} {k : Vec F S1x32x1024 .f32 → Prog (TpuEff nD τ sig (Elt F) Λ₀ .tc) α} :
    slotAt c p v ⊢ iprop((∀ w : Vec F S1x32x1024 .f32, ⌜shapeCast S32x1024 w shapeCasts_S1x32x1024_S32x1024 = v⌝ -∗ slotAt c p v -∗ wp frame (wpE (defs₀ (F := F)) 𝒱₀ (c : Thread nD τ) none) Set.univ (k w) Q)
      -∗ wp frame (wpE (defs₀ (F := F)) 𝒱₀ (c : Thread nD τ) none) Set.univ (.op (.load bufM (Rect.unit (s := S2x32x1024) off S1x32x1024.size inb).toLoadRect hl) k) Q) := by
  subst hoff
  unfold slotAt owns
  iintro ⟨%f, %hf, H⟩ Hk
  iapply (wp_load_rect 𝒱₀ (c : Thread nD τ) none Set.univ (m := bufM) (r := slotR p)
    (subset_of_eq (Memref.set_view_squeeze (slot3M p) squeezes_S1x32x1024_S32x1024).symm)) $$ H
  iintro H
  iapply Hk $$ %_ [] [H]
  · ipureintro; exact hf
  · iexists f
    isplitr; · ipureintro; exact hf
    iexact H

/-! ## The reduce-scatter's transfer and waits -/

theorem baggage_take (c : Dev nD) {t : ℕ} (ht : t < 31) :
    baggage (F := F) (bk c (31 + t)) (Finset.Ico t 31)
      ⊢ iprop(chunkAny (right c) (bk c (31 + t)) ∗ baggage (bk c (31 + t)) (Finset.Ico (t + 1) 31)) := by
  unfold baggage
  rw [bigSep_Ico_succ_bot ht, fw_bk31 c (by omega : t ≤ 31)]
theorem baggage_put (q : Dev nD) (t : ℕ) :
    iprop(chunkAny (fw q t) q ∗ baggage (F := F) q (Finset.range t)) ⊢ baggage q (Finset.range (t + 1)) := by
  unfold baggage
  rw [bigSep_range_succ]

/-- Step `t`'s transfer: the chunk and its baggage go to the right neighbour's slot. -/
theorem send_rs {Q : α → sProp 𝕄} (c n : Dev nD) (hn : n = right c) {t : ℕ} (ht : t < 31) {b : ℕ}
    {off : Fin 2 → ℕ} {inb} (hoff : off = ![32 * (bk c t).val, 0]) {off' : Fin 3 → ℕ} {inb'} (hoff' : off' = ![(cur t).val, 0, 0])
    {sS sR : DmaSem sig} (hS : sS = rsSend (cur t)) (hR : sR = rsRecv (cur t)) {hsc hsrc hdst hsem}
    {k : PUnit → Prog (TpuEff nD τ sig (Elt F) Λ₀ .tc) α} :
    iprop(ctx P κ ι ∗ chunkAt c (bk c t) (acc P (bk c t) t) ∗ baggage (F := F) (bk c t) (Finset.range t)
        ∗ slotAny (F := F) (right c) (cur t) ∗ ow c (owing c t b 0)
        ∗ dutyTok ER (rsSendC c (cur t)) (t / 2) 0 ∗ reached ER (rsSendC c (cur t)) (t / 2)
        ∗ dutyTok ER (rsRecvC (right c) (cur t)) (t / 2) 0 ∗ reached ER (rsRecvC (right c) (cur t)) (t / 2))
      ⊢ iprop(((cred (tallyAt (rsSendC c (cur t)) 0 N) ∗ ow c (owing c (t + 1) b 0)) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (outM.slice (Rect.unit (s := S1024x1024) off S32x1024.size inb) (fun _ => rfl))
            (.remote (Dev.tc n : Thread nD τ)
              ((bufM.slice (Rect.unit (s := S2x32x1024) off' S1x32x1024.size inb') (fun _ => rfl)).squeeze S32x1024 squeezes_S1x32x1024_S32x1024)
              (.dma sS) hsc) (.dma sR) hsrc hdst hsem) k) Q) := by
  subst hn hoff hoff' hS hR
  iintro ⟨#Hc, Hch, Hb, Hs, Ho, Ht, Hr, Ht', Hr'⟩ Hk
  unfold chunkAt owns slotAny Release.slot ow
  icases Hch with ⟨%fs, %hfs, Hch⟩
  icases Hs with ⟨%fd, Hs⟩
  icases Ho with ⟨%W, Ho⟩
  iapply (Rounds.wp_send_landing_pointsTo_with 𝒱₀ ER (Rd P) (c : Thread nD τ) none (c' := (right c : Thread nD τ)) (src := chunkM (bk c t)) (dst := slotM (cur t))
    (κ₁ := κ (rsSendC c (cur t))) (κ₂ := κ (rsRecvC (right c) (cur t)))
    (r₁ := t / 2) (r₂ := t / 2) (d₁ := 0) (d₂ := 0) (fs := fs) (fd := fd)
    (F := iprop(chunkAny (F := F) (fw (bk c t) t) (bk c t) -∗ baggage (F := F) (bk c t) (Finset.range (t + 1))))
    (by rw [duties_rsS P c ht]; exact Finset.mem_singleton_self _) (by rw [duties_rsR P (right c) ht]; exact Finset.mem_singleton_self _)
    (2 * t + 2) 0 N (show (slotM (cur t)).view.amount (.dma (rsRecv (cur t))) = N from credit_slot (cur t)) (amount_rsS P c _ _ _) (amount_rsR P (right c) _ _ _) (owing c (t + 1) b 0) (owing_rs c ht) (W := W)
    (Entails.of_eq (pay_rsS P c _ _ _).symm)
    (by
      rw [pay_rsR]; unfold rsPay
      rw [bk_right c (by omega), fw_bk c (by omega)]
      iintro ⟨⟨Hd, HF⟩, Hs⟩
      isplitl [Hd]
      · unfold slotAt owns
        iexists _
        isplitr; swap
        · iexact Hd
        · ipureintro
          rw [View.read_write_univ]; exact hfs
      · iapply HF
        unfold chunkAny Release.slot
        iexists fs; iexact Hs)) $$ [Hch Hb Hs Ho Ht Hr Ht' Hr']
  · isplitr; · iapply (ctx_rsS P κ ι c (cur t)); iexact Hc
    isplitr; · iapply (ctx_rsR P κ ι (right c) (cur t)); iexact Hc
    isplitl [Hch]; · iexact Hch
    isplitl [Hs Hb]
    · isplitl [Hs]; · iexact Hs
      iintro H
      iapply (baggage_put (bk c t) t)
      isplitl [H] <;> iassumption
    isplitl [Ho]; · iexact Ho
    isplitl [Ht]; · iexact Ht
    isplitl [Hr]; · iexact Hr
    isplitl [Ht']; · iexact Ht'
    iexact Hr'
  iintro ⟨Hcr, Ho⟩
  iapply Hk
  isplitl [Hcr]; · iexact Hcr
  iexists W; iexact Ho

/-- Waiting for the transfer's leaving. -/
theorem wait_rsS {Q : α → sProp 𝕄} (c : Dev nD) {t : ℕ} (ht : t < 31) {a b e : ℕ} {sS : DmaSem sig} (hS : sS = rsSend (cur t))
    {sp sp' : Space} {s : Shape} {el : EltTy} {src : Memref sig .tc sp s el} {dst : Memref sig .tc sp' s el} {hsrc hdst} (hN : dst.view.dmaCredit = N)
    {k : PUnit → Prog (TpuEff nD τ sig (Elt F) Λ₀ .tc) α} :
    iprop(ctx P κ ι ∗ cred (tallyAt (rsSendC c (cur t)) 0 N) ∗ ow (F := F) c (owing c a b e) ∗ atPos ER (rsSendC c (cur t)) (t / 2) ∅ 0)
      ⊢ iprop(((ow (F := F) c (owing c a b e) ∗ atPos ER (rsSendC c (cur t)) (t / 2 + 1) ∅ 0 ∗ reached ER (rsSendC c (cur t)) (t / 2 + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS src dst hsrc hdst) k) Q) := by
  subst hS
  have hmw := (@ctx_lev F _ P κ ι).trans (mayWait (F := F) c (.dma (rsSend (cur t))) 0 (a := a) (b := b) (e := e) (fun _ => by omega) (fun _ => by omega) (fun _ => by omega) (by omega))
  iintro ⟨#Hc, Hcr, Ho, Hat⟩ Hk
  unfold ow
  icases Ho with ⟨%W, Ho⟩
  iapply (Rounds.wp_wait_rest_token 𝒱₀ ER (Rd P) (c : Thread nD τ) none (κ := κ (rsSendC c (cur t)))
    (wpE_waitDma2_eq 𝒱₀ (c : Thread nD τ) none Set.univ) (Set.mem_univ _) 0 (O := owing c a b e) (W := W) (R := t / 2) (m := 0) (T := ∅)
    (by rw [Nat.zero_add, expect_rsS P c ht]; exact hN)) $$ [Hcr Ho Hat]
  · isplitr; · iapply (ctx_rsS P κ ι c (cur t)); iexact Hc
    isplitl [Hcr]; · rw [hN]; iexact Hcr
    isplitl [Ho]; · iexact Ho
    isplitr
    · iapply hmw; iexact Hc
    iexact Hat
  iintro ⟨Ho, Hat, Hr, -⟩
  iapply Hk
  isplitl [Ho]; · iexists _; iexact Ho
  isplitl [Hat] <;> iassumption

/-- Waiting for step `t`'s arrival from the left. -/
theorem wait_rsR {Q : α → sProp 𝕄} (c : Dev nD) {t : ℕ} (ht : t < 31) {b : ℕ} (hb : t ≤ b) {sR : DmaSem sig} (hR : sR = rsRecv (cur t))
    {sp sp' : Space} {s : Shape} {el : EltTy} {src : Memref sig .tc sp s el} {dst : Memref sig .tc sp' s el} {hsrc hdst} (hN : dst.view.dmaCredit = N)
    {k : PUnit → Prog (TpuEff nD τ sig (Elt F) Λ₀ .tc) α} :
    iprop(ctx P κ ι ∗ cred (tallyAt (rsRecvC c (cur t)) (2 * t + 2) N) ∗ ow (F := F) c (owing c (t + 1) b 0)
        ∗ atPos ER (rsRecvC c (cur t)) (t / 2) ∅ 0)
      ⊢ iprop(((ow (F := F) c (owing c (t + 1) b 0) ∗ atPos ER (rsRecvC c (cur t)) (t / 2 + 1) ∅ 0 ∗ reached ER (rsRecvC c (cur t)) (t / 2 + 1)
            ∗ rsPay P c t) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR src dst hsrc hdst) k) Q) := by
  subst hR
  have hmw := (@ctx_lev F _ P κ ι).trans (mayWait (F := F) c (.dma (rsRecv (cur t))) (2 * t + 2) (a := t + 1) (b := b) (e := 0) (fun _ => by omega) (fun _ => by omega) (fun _ => by omega) (by omega))
  iintro ⟨#Hc, Hcr, Ho, Hat⟩ Hk
  unfold ow
  icases Ho with ⟨%W, Ho⟩
  iapply (Rounds.wp_wait_rest_token 𝒱₀ ER (Rd P) (c : Thread nD τ) none (κ := κ (rsRecvC c (cur t)))
    (wpE_waitDma2_eq 𝒱₀ (c : Thread nD τ) none Set.univ) (Set.mem_univ _) (2 * t + 2) (O := owing c (t + 1) b 0) (W := W) (R := t / 2) (m := 0) (T := ∅)
    (by rw [Nat.zero_add, expect_rsR P c ht]; exact hN)) $$ [Hcr Ho Hat]
  · isplitr; · iapply (ctx_rsR P κ ι c (cur t)); iexact Hc
    isplitl [Hcr]; · rw [hN]; iexact Hcr
    isplitl [Ho]; · iexact Ho
    isplitr
    · iapply hmw; iexact Hc
    iexact Hat
  iintro ⟨Ho, Hat, Hr, Hp⟩
  ihave Hp := (Entails.of_eq ((rest_one P (duties_rsR P c ht)).trans (pay_rsR P c t 0))) $$ Hp
  iapply Hk
  isplitl [Ho]; · iexists _; iexact Ho
  isplitl [Hat]; · iexact Hat
  isplitl [Hr]; · iexact Hr
  iexact Hp

/-! ## The credits -/

/-- `n` credits taken: which, and what they brought. -/
def crState (c : Dev nD) (n : ℕ) : sProp 𝕄 :=
  iprop(∃ T : Finset ℕ, ⌜T ⊆ Finset.range 29 ∧ n ≤ T.card⌝ ∗ atPos ER (crC c) 0 T n ∗ bigSep T fun j => crPay (F := F) c j)

/-- Of `n + 1` credits one is the `n`-th or later, and has brought what step `n + 2` needs. -/
theorem crState_need (c : Dev nD) {n : ℕ} : crState (F := F) c (n + 1) ⊢ iprop(crState (F := F) c (n + 1) ∗ need (F := F) (right c) (n + 2)) := by
  unfold crState
  iintro ⟨%T, %hT, Hat, #Hp⟩
  have : ∃ j ∈ T, n ≤ j := by
    by_contra hn
    push Not at hn
    have : T ⊆ Finset.range n := fun j hj => Finset.mem_range.mpr (hn j hj)
    have := Finset.card_le_card this
    rw [Finset.card_range] at this; omega
  obtain ⟨j, hj, hnj⟩ := this
  isplitl [Hat]
  · iexists T
    isplitr; · ipureintro; exact hT
    isplitl [Hat]; · iexact Hat
    iexact Hp
  · ihave #H := (pick (Φ := fun j => crPay (F := F) c j) hj) $$ Hp
    unfold crPay
    iapply (pick (Φ := fun i => need (F := F) (right c) (i + 2)) (Finset.mem_range.mpr (Nat.lt_succ_of_le hnj))); iexact H

/-- Taking one more credit. -/
theorem wait_cr {Q : α → sProp 𝕄} (c : Dev nD) {n : ℕ} (hn : n < 29) {a b : ℕ} (ha : n + 2 ≤ a) (hb : n < b)
    {k : PUnit → Prog (TpuEff nD τ sig (Elt F) Λ₀ .tc) α} :
    iprop(ctx P κ ι ∗ cred (tallyAt (crC c) (2 * n + 3) 1) ∗ ow (F := F) c (owing c a b 0) ∗ crState (F := F) c n)
      ⊢ iprop(((ow (F := F) c (owing c a b 0) ∗ crState (F := F) c (n + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.semWait crS 1) k) Q) := by
  have hmw := (@ctx_lev F _ P κ ι).trans (mayWait (F := F) c (.reg crS) (2 * n + 3) (a := a) (b := b) (e := 0) (fun _ => by omega) (fun _ => by omega) (fun _ => by omega) (by omega))
  iintro ⟨#Hc, Hcr, Ho, Hst⟩ Hk
  unfold ow crState
  icases Ho with ⟨%W, Ho⟩
  icases Hst with ⟨%T, %hT, Hat, #Hp⟩
  iapply (Rounds.wp_wait 𝒱₀ ER (Rd P) (c : Thread nD τ) none (κ := κ (crC c))
    (wpE_semWait_eq 𝒱₀ (c : Thread nD τ) none Set.univ) (Set.mem_univ _) (cr := Finsupp.single (2 * n + 3) 1) (O := owing c a b 0) (W := W)
    {(SemLoc.reg crS, 2 * n + 3)} (R := 0) (m := n) (T := T)
    (by rw [Util.total_single]) (image_single_subset _ _ _)) $$ [Hcr Ho Hat]
  · isplitr; · iapply (ctx_cr P κ ι c); iexact Hc
    isplitl [Hcr]; · iexact Hcr
    isplitl [Ho]; · iexact Ho
    isplitr
    · iapply hmw; iexact Hc
    iexact Hat
  iintro %S ⟨%hS, Ho, Hat, Hp'⟩
  iapply Hk
  isplitl [Ho]; · iexists _; iexact Ho
  iexists S
  isplitr
  · ipureintro
    obtain ⟨h1, h2, h3⟩ := hS
    rw [duties_cr] at h2 h3
    rw [expect_cr] at h3
    change n + (1 : ℕ) + _ ≤ _ at h3
    refine ⟨h2, ?_⟩
    have := Finset.card_sdiff_add_card_eq_card h2
    rw [Finset.card_range] at this
    omega
  isplitl [Hat]; · iexact Hat
  ihave Hp2 := (onEach (s := S \ T) (Φ := fun j => (Rd P).payload (crC c) 0 j) (Ψ := fun j => crPay (F := F) c j) fun j _ => Entails.of_eq (pay_cr P c 0 j)) $$ Hp'
  have hu : iprop((bigSep T fun j => crPay (F := F) c j) ∗ bigSep (S \ T) fun j => crPay (F := F) c j) ⊢ bigSep S fun j => crPay (F := F) c j := by
    exact Entails.of_eq ((BI.bigSep_union Finset.disjoint_sdiff).symm.trans (by rw [Finset.union_sdiff_of_subset hS.1]))
  iapply hu
  isplitr; · iexact Hp
  iexact Hp2

/-- Giving credit `b` to the left neighbour. -/
theorem signal_cr {Q : α → sProp 𝕄} (c n : Dev nD) (hn : n = left c) {a b : ℕ} (hb : b < 29)
    {k : PUnit → Prog (TpuEff nD τ sig (Elt F) Λ₀ .tc) α} :
    iprop(ctx P κ ι ∗ ow (F := F) c (owing c a b 0) ∗ dutyTok ER (crC (left c)) 0 b ∗ (bigSep (Finset.range (b + 1)) fun i => need (F := F) c (i + 2))
        ∗ reached ER (crC (left c)) 0)
      ⊢ iprop((ow (F := F) c (owing c a (b + 1) 0) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) crS 1) k) Q) := by
  subst hn
  iintro ⟨#Hc, Ho, Ht, Hp, Hr⟩ Hk
  unfold ow
  icases Ho with ⟨%W, Ho⟩
  iapply (Rounds.wp_signal 𝒱₀ ER (Rd P) (c : Thread nD τ) none (dst := (left c : Thread nD τ)) (sem := crS) (r := 0) (d := b) (κ := κ (crC (left c)))
    (by rw [duties_cr]; exact Finset.mem_range.mpr hb) (amount_cr P (left c) 0 b) (2 * b + 3) (owing c a (b + 1) 0) (owing_cr c hb)) $$ [Ho Ht Hp Hr]
  · isplitr; · iapply (ctx_cr P κ ι (left c)); iexact Hc
    isplitl [Ho]; · iexact Ho
    isplitl [Ht]; · iexact Ht
    isplitl [Hp]
    · rw [pay_cr]; unfold crPay; rw [right_left]; iexact Hp
    iexact Hr
  iintro Ho
  iapply Hk
  iexists W; iexact Ho

/-! ## The all-gather's transfer and waits -/

/-- Step `t`'s transfer: the chunk goes to its place on the right neighbour, which the baggage holds. -/
theorem send_ag {Q : α → sProp 𝕄} (c n : Dev nD) (hn : n = right c) {t : ℕ} (ht : t < 31) {a b : ℕ}
    {off : Fin 2 → ℕ} {inb inb'} (hoff : off = ![32 * (bk c (31 + t)).val, 0])
    {sS sR : DmaSem sig} (hS : sS = agSend t) (hR : sR = agRecv t) {hsc hsrc hdst hsem}
    {k : PUnit → Prog (TpuEff nD τ sig (Elt F) Λ₀ .tc) α} :
    iprop(ctx P κ ι ∗ chunkAt c (bk c (31 + t)) (acc P (bk c (31 + t)) 31) ∗ baggage (F := F) (bk c (31 + t)) (Finset.Ico t 31)
        ∗ ow c (owing c a b t)
        ∗ dutyTok ER (agSendC c t) 0 0 ∗ reached ER (agSendC c t) 0
        ∗ dutyTok ER (agRecvC (right c) t) 0 0 ∗ reached ER (agRecvC (right c) t) 0)
      ⊢ iprop(((cred (tallyAt (agSendC c t) 0 N) ∗ ow c (owing c a b (t + 1))) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (outM.slice (Rect.unit (s := S1024x1024) off S32x1024.size inb) (fun _ => rfl))
            (.remote (Dev.tc n : Thread nD τ) (outM.slice (Rect.unit (s := S1024x1024) off S32x1024.size inb') (fun _ => rfl))
              (.dma sS) hsc) (.dma sR) hsrc hdst hsem) k) Q) := by
  subst hn hoff hS hR
  iintro ⟨#Hc, Hch, Hb, Ho, Ht, Hr, Ht', Hr'⟩ Hk
  ihave Hb := (baggage_take c ht) $$ Hb
  unfold chunkAt owns ow
  icases Hch with ⟨%fs, %hfs, Hch⟩
  icases Hb with ⟨Hd, Hb⟩
  unfold chunkAny Release.slot
  icases Hd with ⟨%fd, Hd⟩
  icases Ho with ⟨%W, Ho⟩
  iapply (Rounds.wp_send_pointsTo_with 𝒱₀ ER (Rd P) (c : Thread nD τ) none (c' := (right c : Thread nD τ)) (src := chunkM (bk c (31 + t))) (dst := chunkM (bk c (31 + t)))
    (κ₁ := κ (agSendC c t)) (κ₂ := κ (agRecvC (right c) t))
    (r₁ := 0) (r₂ := 0) (d₁ := 0) (d₂ := 0) (fs := fs) (fd := fd)
    (F := baggage (F := F) (bk c (31 + t)) (Finset.Ico (t + 1) 31))
    (by rw [duties_agS P c ht]; exact Finset.mem_singleton_self _) (by rw [duties_agR P (right c) ht]; exact Finset.mem_singleton_self _)
    (2 * (31 + t) + 2) 0 N (show (chunkM (bk c (31 + t))).view.amount (.dma (agRecv t)) = N from credit_chunk _) (amount_agS P c ht _ _) (amount_agR P (right c) ht _ _) (owing c a b (t + 1)) (owing_ag c ht) (W := W)
    (by
      rw [pay_agS P c ht]; unfold agBack chunkAt owns
      iintro H; iexists fs
      isplitr; · ipureintro; exact hfs
      iexact H)
    (by
      rw [pay_agR P (right c) ht]; unfold agPay
      rw [show bk (right c) t = bk c (31 + t) by
        rw [← bk_right c (by omega : 31 + t < 96), show 31 + t + 1 = 32 + t by omega, bk_add _ (by omega)]]
      iintro ⟨Hd, HF⟩
      isplitl [Hd]
      · unfold chunkAt owns
        iexists _
        isplitr; swap
        · iexact Hd
        · ipureintro
          rw [View.read_write_univ]; exact hfs
      · iexact HF)) $$ [Hch Hb Hd Ho Ht Hr Ht' Hr']
  · isplitr; · iapply (ctx_agS P κ ι c ht); iexact Hc
    isplitr; · iapply (ctx_agR P κ ι (right c) ht); iexact Hc
    isplitl [Hch]; · iexact Hch
    isplitl [Hd Hb]
    · isplitl [Hd]; · iexact Hd
      iexact Hb
    isplitl [Ho]; · iexact Ho
    isplitl [Ht]; · iexact Ht
    isplitl [Hr]; · iexact Hr
    isplitl [Ht']; · iexact Ht'
    iexact Hr'
  iintro ⟨Hcr, Ho⟩
  iapply Hk
  isplitl [Hcr]; · iexact Hcr
  iexists W; iexact Ho

/-- Waiting for the transfer's leaving: the chunk sent is back. -/
theorem wait_agS {Q : α → sProp 𝕄} (c : Dev nD) {t : ℕ} (ht : t < 31) {a b e : ℕ} {sS : DmaSem sig} (hS : sS = agSend t)
    {sp sp' : Space} {s : Shape} {el : EltTy} {src : Memref sig .tc sp s el} {dst : Memref sig .tc sp' s el} {hsrc hdst} (hN : dst.view.dmaCredit = N)
    {k : PUnit → Prog (TpuEff nD τ sig (Elt F) Λ₀ .tc) α} :
    iprop(ctx P κ ι ∗ cred (tallyAt (agSendC c t) 0 N) ∗ ow (F := F) c (owing c a b e) ∗ atPos ER (agSendC c t) 0 ∅ 0)
      ⊢ iprop(((ow (F := F) c (owing c a b e) ∗ atPos ER (agSendC c t) 1 ∅ 0 ∗ agBack P c t) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS src dst hsrc hdst) k) Q) := by
  subst hS
  have hmw := (@ctx_lev F _ P κ ι).trans (mayWait (F := F) c (.dma (agSend t)) 0 (a := a) (b := b) (e := e) (fun _ => by omega) (fun _ => by omega) (fun _ => by omega) (by omega))
  iintro ⟨#Hc, Hcr, Ho, Hat⟩ Hk
  unfold ow
  icases Ho with ⟨%W, Ho⟩
  iapply (Rounds.wp_wait_rest_token 𝒱₀ ER (Rd P) (c : Thread nD τ) none (κ := κ (agSendC c t))
    (wpE_waitDma2_eq 𝒱₀ (c : Thread nD τ) none Set.univ) (Set.mem_univ _) 0 (O := owing c a b e) (W := W) (R := 0) (m := 0) (T := ∅)
    (by rw [Nat.zero_add, expect_agS P c ht]; exact hN)) $$ [Hcr Ho Hat]
  · isplitr; · iapply (ctx_agS P κ ι c ht); iexact Hc
    isplitl [Hcr]; · rw [hN]; iexact Hcr
    isplitl [Ho]; · iexact Ho
    isplitr
    · iapply hmw; iexact Hc
    iexact Hat
  iintro ⟨Ho, Hat, -, Hp⟩
  ihave Hp := (Entails.of_eq ((rest_one P (duties_agS P c ht)).trans (pay_agS P c ht 0 0))) $$ Hp
  iapply Hk
  isplitl [Ho]; · iexists _; iexact Ho
  isplitl [Hat]; · iexact Hat
  iexact Hp

/-- Waiting for step `t`'s arrival from the left. -/
theorem wait_agR {Q : α → sProp 𝕄} (c : Dev nD) {t : ℕ} (ht : t < 31) {a b : ℕ} (ha : 31 ≤ a) (hb : 29 ≤ b) {sR : DmaSem sig} (hR : sR = agRecv t)
    {sp sp' : Space} {s : Shape} {el : EltTy} {src : Memref sig .tc sp s el} {dst : Memref sig .tc sp' s el} {hsrc hdst} (hN : dst.view.dmaCredit = N)
    {k : PUnit → Prog (TpuEff nD τ sig (Elt F) Λ₀ .tc) α} :
    iprop(ctx P κ ι ∗ cred (tallyAt (agRecvC c t) (2 * (31 + t) + 2) N) ∗ ow (F := F) c (owing c a b (t + 1)) ∗ atPos ER (agRecvC c t) 0 ∅ 0)
      ⊢ iprop(((ow (F := F) c (owing c a b (t + 1)) ∗ atPos ER (agRecvC c t) 1 ∅ 0 ∗ agPay P c t) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR src dst hsrc hdst) k) Q) := by
  subst hR
  have hmw := (@ctx_lev F _ P κ ι).trans (mayWait (F := F) c (.dma (agRecv t)) (2 * (31 + t) + 2) (a := a) (b := b) (e := t + 1) (fun _ => by omega) (fun _ => by omega) (fun _ => by omega) (by omega))
  iintro ⟨#Hc, Hcr, Ho, Hat⟩ Hk
  unfold ow
  icases Ho with ⟨%W, Ho⟩
  iapply (Rounds.wp_wait_rest_token 𝒱₀ ER (Rd P) (c : Thread nD τ) none (κ := κ (agRecvC c t))
    (wpE_waitDma2_eq 𝒱₀ (c : Thread nD τ) none Set.univ) (Set.mem_univ _) (2 * (31 + t) + 2) (O := owing c a b (t + 1)) (W := W) (R := 0) (m := 0) (T := ∅)
    (by rw [Nat.zero_add, expect_agR P c ht]; exact hN)) $$ [Hcr Ho Hat]
  · isplitr; · iapply (ctx_agR P κ ι c ht); iexact Hc
    isplitl [Hcr]; · rw [hN]; iexact Hcr
    isplitl [Ho]; · iexact Ho
    isplitr
    · iapply hmw; iexact Hc
    iexact Hat
  iintro ⟨Ho, Hat, -, Hp⟩
  ihave Hp := (Entails.of_eq ((rest_one P (duties_agR P c ht)).trans (pay_agR P c ht 0 0))) $$ Hp
  iapply Hk
  isplitl [Ho]; · iexists _; iexact Ho
  isplitl [Hat]; · iexact Hat
  iexact Hp

end Cert.RingProof

end
-- ==== Proof.RsLoop.lean ====
/-
  The reduce-scatter: what device `c` holds before step `t`, and one step of it.
-/
module

public import proofs.«01_k».proof.Proof.Steps
public import Idealize.ShloMosaic.Lib.Pointwise.Reshape

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The two slots -/

/-- Something said of each slot `p` and of how many of its steps are over, before step `t`. -/
def both (Φ : Fin 2 → ℕ → sProp 𝕄) (t : ℕ) : sProp 𝕄 := iprop(Φ 0 ((t + 1) / 2) ∗ Φ 1 (t / 2))

/-- Step `t` moves its own slot on by one. -/
theorem both_step (Φ : Fin 2 → ℕ → sProp 𝕄) (t : ℕ) :
    both Φ t ⊢ iprop(Φ (cur t) (t / 2) ∗ (Φ (cur t) (t / 2 + 1) -∗ both Φ (t + 1))) := by
  unfold both
  rcases Nat.even_or_odd' t with ⟨m, rfl | rfl⟩
  · rw [show cur (2 * m) = 0 from Fin.ext (by simp [cur]), show (2 * m + 1) / 2 = 2 * m / 2 by omega, show (2 * m + 1 + 1) / 2 = 2 * m / 2 + 1 by omega]
    iintro ⟨H0, H1⟩
    isplitl [H0]; · iexact H0
    iintro H0
    isplitl [H0] <;> iassumption
  · rw [show cur (2 * m + 1) = 1 from Fin.ext (by simp [cur]), show (2 * m + 1 + 1 + 1) / 2 = (2 * m + 1 + 1) / 2 by omega, show (2 * m + 1 + 1) / 2 = (2 * m + 1) / 2 + 1 by omega]
    iintro ⟨H0, H1⟩
    isplitl [H1]; · iexact H1
    iintro H1
    isplitl [H0] <;> iassumption

/-- The receive slot `p` after `r` of its steps: released to the left neighbour, or with nothing more to come kept. -/
def rdr (c : Dev nD) (p : Fin 2) (r : ℕ) : sProp 𝕄 :=
  if 2 * r + p.val ≤ 30 then Release.readerAt ES (c, p) (r + 1) else slotAny c p

/-- All that is said of slot `p` after `r` of its steps. -/
def rsSlot (c : Dev nD) (p : Fin 2) (r : ℕ) : sProp 𝕄 :=
  iprop(atPos ER (rsSendC c p) r ∅ 0 ∗ reached ER (rsSendC c p) r ∗ atPos ER (rsRecvC c p) r ∅ 0 ∗ rdr c p r)

/-- What step `s` uses up. -/
def rsTok (c : Dev nD) (s : ℕ) : sProp 𝕄 :=
  iprop(dutyTok ER (rsSendC c (cur s)) (s / 2) 0 ∗ dutyTok ER (rsRecvC (right c) (cur s)) (s / 2) 0
    ∗ Release.writeTok ES (right c, cur s) (s / 2 + 1) ∗ cred (tallyAt (rsRecvC c (cur s)) (2 * s + 2) N))

variable (P : Dev nD → Vec F S1024x1024 .f32) (κ : GSem nD τ sig → ℕ) (ι : Key → ℕ)

/-- What device `c` has been told when it has passed the barrier. -/
def told (c : Dev nD) : sProp 𝕄 :=
  iprop(ctx P κ ι ∗ need (right c) 0 ∗ need (right c) 1 ∗ reached ER (crC (left c)) 0
    ∗ bigSep (Finset.range 31) fun t => reached ER (agRecvC (right c) t) 0)

instance told_persistent (c : Dev nD) : BI.Persistent (told P κ ι c) := by unfold told; infer_instance

/-- Before step `t`. -/
def rsInv (c : Dev nD) (t : ℕ) : sProp 𝕄 :=
  iprop(told P κ ι c ∗ (bigSep (Finset.Ico (t + 1) 32) fun s => chunkAt c (bk c s) (part P c (bk c s)))
    ∗ chunkAt c (bk c t) (acc P (bk c t) t) ∗ baggage (bk c t) (Finset.range t)
    ∗ both (rsSlot c) t ∗ bigSep (Finset.Ico t 31) (rsTok c)
    ∗ (bigSep (Finset.Ico t 29) fun j => dutyTok ER (crC (left c)) 0 j)
    ∗ (bigSep (Finset.Ico (t - 2) 29) fun j => cred (tallyAt (crC c) (2 * j + 3) 1))
    ∗ (bigSep (Finset.range (min t 29)) fun i => need c (i + 2))
    ∗ crState c (t - 2) ∗ ow c (owing c t t 0))

variable {α : Type}

/-- A step from the third on first takes a credit; then it knows that its slot may be written. -/
theorem rs_credit {Q : α → sProp 𝕄} (c : Dev nD) {t : ℕ} (ht : t < 31) {v : BitVec 1} (hv : v = 1#1 ↔ 2 ≤ t)
    {k : Prog (TpuEff nD τ sig (Elt F) Λ₀ .tc) α} :
    iprop(told P κ ι c ∗ (bigSep (Finset.Ico (t - 2) 29) fun j => cred (tallyAt (crC c) (2 * j + 3) 1))
        ∗ crState c (t - 2) ∗ ow c (owing c t t 0))
      ⊢ iprop(((need (right c) t ∗ (bigSep (Finset.Ico (t + 1 - 2) 29) fun j => cred (tallyAt (crC c) (2 * j + 3) 1))
            ∗ crState c (t + 1 - 2) ∗ ow c (owing c t t 0)) -∗ wp frame (wpE (defs₀ (F := F)) 𝒱₀ (c : Thread nD τ) none) Set.univ k Q)
        -∗ wp frame (wpE (defs₀ (F := F)) 𝒱₀ (c : Thread nD τ) none) Set.univ
          (if _h : v = 1#1 then Prog.op (.semWait crS 1) (fun _ => k) else k) Q) := by
  by_cases h2 : 2 ≤ t
  · rw [dif_pos (hv.mpr h2)]
    obtain ⟨n, rfl⟩ : ∃ n, t = n + 2 := ⟨t - 2, by omega⟩
    rw [show n + 2 - 2 = n by omega, show n + 2 + 1 - 2 = n + 1 by omega, bigSep_Ico_succ_bot (by omega : n < 29)]
    unfold told
    iintro ⟨⟨#Hc, -⟩, ⟨Hcr, Hcrs⟩, Hst, Ho⟩ Hk
    iapply (wait_cr P κ ι c (n := n) (by omega) (a := n + 2) (b := n + 2) (by omega) (by omega)) $$ [Hcr Hst Ho]
    · isplitr; · iexact Hc
      isplitl [Hcr]; · iexact Hcr
      isplitl [Ho] <;> iassumption
    iintro ⟨Ho, Hst⟩
    ihave Hst := (crState_need c) $$ Hst
    icases Hst with ⟨Hst, #Hn⟩
    iapply Hk
    isplitr; · iexact Hn
    isplitl [Hcrs]; · iexact Hcrs
    isplitl [Hst] <;> iassumption
  · rw [dif_neg (fun h => h2 (hv.mp h))]
    rw [show t - 2 = 0 by omega, show t + 1 - 2 = 0 by omega]
    unfold told
    iintro ⟨⟨-, #H0, #H1, -⟩, Hcrs, Hst, Ho⟩ Hk
    iapply Hk
    isplitr
    · rcases (by omega : t = 0 ∨ t = 1) with rfl | rfl
      · iexact H0
      · iexact H1
    isplitl [Hcrs]; · iexact Hcrs
    isplitl [Hst] <;> iassumption

/-- After its addition a step gives its slot back to the left neighbour, unless nothing more is to come. -/
theorem rs_release {Q : α → sProp 𝕄} (c : Dev nD) {t : ℕ} (ht : t < 31) {v : BitVec 1} (hv : v = 1#1 ↔ t ≤ 28)
    {n : v = 1#1 → Dev nD} (hn : ∀ h, n h = left c)
    {k : Prog (TpuEff nD τ sig (Elt F) Λ₀ .tc) α} :
    iprop(told P κ ι c ∗ slotAny c (cur t) ∗ Release.readerAt ES (c, cur t) (t / 2 + 1) ∗ reached ER (rsRecvC c (cur t)) (t / 2 + 1)
        ∗ (bigSep (Finset.Ico t 29) fun j => dutyTok ER (crC (left c)) 0 j)
        ∗ (bigSep (Finset.range (min t 29)) fun i => need c (i + 2)) ∗ ow c (owing c (t + 1) t 0))
      ⊢ iprop(((rdr c (cur t) (t / 2 + 1) ∗ (bigSep (Finset.Ico (t + 1) 29) fun j => dutyTok ER (crC (left c)) 0 j)
            ∗ (bigSep (Finset.range (min (t + 1) 29)) fun i => need c (i + 2)) ∗ ow c (owing c (t + 1) (t + 1) 0))
          -∗ wp frame (wpE (defs₀ (F := F)) 𝒱₀ (c : Thread nD τ) none) Set.univ k Q)
        -∗ wp frame (wpE (defs₀ (F := F)) 𝒱₀ (c : Thread nD τ) none) Set.univ
          (if h : v = 1#1 then Prog.op (.semSignal (Dev.tc (n h) : Thread nD τ) crS 1) (fun _ => k) else k) Q) := by
  have hc := half_cur t
  by_cases h2 : t ≤ 28
  · rw [dif_pos (hv.mpr h2)]
    unfold rdr
    rw [if_pos (by omega), min_eq_left (by omega : t ≤ 29), min_eq_left (by omega : t + 1 ≤ 29), bigSep_Ico_succ_bot (by omega : t < 29), bigSep_range_succ]
    have hneed : iprop(Release.released ES (c, cur t) (t / 2 + 1 + 1) ∗ reached ER (rsRecvC c (cur t)) (t / 2 + 1)) ⊢ (need c (t + 2) : sProp 𝕄) := by
      unfold need; rw [cur_two, half_two]
    unfold told
    iintro ⟨⟨#Hc, -, -, #Hl, -⟩, Hs, Hr, #Hre, ⟨Hd, Hds⟩, #Hns, Ho⟩ Hk
    imod (Release.slot_release ES (ι := ι (c, cur t)) (Es := Set.univ) (Set.mem_univ _) (slotAny_false c (cur t)) (t / 2 + 1)) $$ [Hs Hr] with ⟨Hr, #Hrel⟩
    · isplitr; · iapply (ctx_slot P κ ι c (cur t)); iexact Hc
      isplitl [Hr] <;> iassumption
    ihave #Hn := hneed $$ []
    · isplitr <;> iassumption
    iapply (signal_cr P κ ι c _ (hn _) (by omega : t < 29)) $$ [Ho Hd]
    · isplitr; · iexact Hc
      isplitl [Ho]; · iexact Ho
      isplitl [Hd]; · iexact Hd
      isplitr
      · rw [bigSep_range_succ]
        isplitr <;> iassumption
      iexact Hl
    iintro Ho
    iapply Hk
    isplitl [Hr]; · iexact Hr
    isplitl [Hds]; · iexact Hds
    isplitr
    · isplitr <;> iassumption
    iexact Ho
  · rw [dif_neg (fun h => h2 (hv.mp h))]
    unfold rdr
    rw [if_neg (by omega), min_eq_right (by omega : 29 ≤ t), min_eq_right (by omega : 29 ≤ t + 1), Finset.Ico_eq_empty_of_le (by omega : 29 ≤ t),
      Finset.Ico_eq_empty_of_le (by omega : 29 ≤ t + 1), owing_cr_end c (by omega : 29 ≤ t) (by omega : 29 ≤ t + 1)]
    iintro ⟨-, Hs, -, -, Hd, #Hns, Ho⟩ Hk
    iapply Hk
    isplitl [Hs]; · iexact Hs
    isplitl [Hd]; · iexact Hd
    isplitr; · iexact Hns
    iexact Ho

/-! ## One step -/

theorem rs_first (t : Fin k0_t1_loop.trips) :
    (Scalar.cmpi .ne (Scalar.extui (Scalar.cmpi .sge (Scf.iv (0#32) (1#32) t.val) 2#32) : BitVec 32) 0#32 = 1#1) ↔ 2 ≤ t.val := by
  revert t; decide
theorem rs_last (t : Fin k0_t1_loop.trips) : (k0_cond2 t = 1#1) ↔ t.val ≤ 28 := by
  revert t; decide
theorem lt31 (t : Fin k0_t1_loop.trips) : t.val < 31 := lt_of_lt_of_eq t.isLt trips1
theorem off1_eq (t : Fin k0_t1_loop.trips) : k0_off1 t = ![(cur t.val).val] := by revert t; decide
theorem off2_eq (t : Fin k0_t1_loop.trips) : k0_off2 t = ![(cur t.val).val, 0, 0] := by revert t; decide
theorem off5_eq (t : Fin k0_t1_loop.trips) : k0_off5 t = ![(cur t.val).val, 0, 0] := by revert t; decide
theorem dev3_eq (c : Dev nD) : (⟨k0_dev3 c, k0_dev3_lt c⟩ : Dev nD) = right c := by revert c; decide
theorem dev4_eq (c : Dev nD) (h : k0_dev4 c < nD) : (⟨k0_dev4 c, h⟩ : Dev nD) = left c := by revert c; decide

theorem pay18_eq (v w : Vec F S32x1024 .f32) (u : Vec F S1x32x1024 .f32) (h : shapeCast S32x1024 u shapeCasts_S1x32x1024_S32x1024 = w) :
    k0_pay18 v u = addC v w := by
  unfold k0_pay18 addC
  simp only [h]
  rw [shapeCast_id]

theorem acc_next (c : Dev nD) {t : ℕ} (ht : t < 31) :
    addC (part P c (bk c (t + 1))) (acc P (bk c (t + 1)) t) = acc P (bk c (t + 1)) (t + 1) := by
  rw [acc, fw_bk c (by omega)]

theorem credit_off3 (c : Dev nD) (t : Fin k0_t1_loop.trips) {inb} :
    (outM.slice (Rect.unit (s := S1024x1024) (k0_off3 c t) S32x1024.size inb) (fun _ => rfl)).view.dmaCredit = N := by
  revert inb; rw [off3_eq c t (lt31 t)]; intro inb; exact credit_chunk _
theorem credit_off2 (t : Fin k0_t1_loop.trips) {inb} :
    ((bufM.slice (Rect.unit (s := S2x32x1024) (k0_off2 t) S1x32x1024.size inb) (fun _ => rfl)).squeeze S32x1024 squeezes_S1x32x1024_S32x1024).view.dmaCredit = N := by
  revert inb; rw [off2_eq t]; intro inb; exact credit_slot _

theorem told_ctx (c : Dev nD) : told P κ ι c ⊢ ctx P κ ι := by
  unfold told; iintro ⟨H, -⟩; iexact H
theorem rsSlot_open (c : Dev nD) {t : ℕ} (ht : t < 31) :
    rsSlot (F := F) c (cur t) (t / 2)
      ⊢ iprop(atPos ER (rsSendC c (cur t)) (t / 2) ∅ 0 ∗ reached ER (rsSendC c (cur t)) (t / 2) ∗ atPos ER (rsRecvC c (cur t)) (t / 2) ∅ 0
          ∗ Release.readerAt ES (c, cur t) (t / 2 + 1)) := by
  unfold rsSlot rdr; rw [half_cur, if_pos (by omega)]
theorem rsTok_open (c : Dev nD) (s : ℕ) :
    rsTok (F := F) c s ⊢ iprop(dutyTok ER (rsSendC c (cur s)) (s / 2) 0 ∗ dutyTok ER (rsRecvC (right c) (cur s)) (s / 2) 0
      ∗ Release.writeTok ES (right c, cur s) (s / 2 + 1) ∗ cred (tallyAt (rsRecvC c (cur s)) (2 * s + 2) N)) := by
  unfold rsTok; exact .rfl
theorem need_open (d : Dev nD) (t : ℕ) :
    need (F := F) d t ⊢ iprop(Release.released ES (d, cur t) (t / 2 + 1) ∗ reached ER (rsRecvC d (cur t)) (t / 2)) := by
  unfold need; exact .rfl
theorem rsPay_open (c : Dev nD) (s : ℕ) :
    rsPay P c s ⊢ iprop(slotAt c (cur s) (acc P (bk c (s + 1)) s) ∗ baggage (bk c (s + 1)) (Finset.range (s + 1))) := by
  unfold rsPay; exact .rfl
theorem rsSlot_make (c : Dev nD) (p : Fin 2) (r : ℕ) :
    iprop(atPos ER (rsSendC c p) r ∅ 0 ∗ reached ER (rsSendC c p) r ∗ atPos ER (rsRecvC c p) r ∅ 0 ∗ rdr c p r) ⊢ rsSlot (F := F) c p r := by
  unfold rsSlot; exact .rfl

theorem dite_bind {β γ : Type} {p : Prop} [Decidable p] (A : p → Prog (TpuEff nD τ sig (Elt F) Λ₀ .tc) β) (B : ¬ p → Prog (TpuEff nD τ sig (Elt F) Λ₀ .tc) β)
    (K : β → Prog (TpuEff nD τ sig (Elt F) Λ₀ .tc) γ) :
    (if h : p then A h else B h) >>= K = if h : p then A h >>= K else B h >>= K := by
  split <;> rfl
theorem one_toInt : (1#32).toInt = 1 := rfl

theorem rs_trip (c : Dev nD) (arg0 : Memref sig .tc .vmem S1024x1024 .f32) (harg0 : arg0.IsWhole) (arg1 : Memref sig .tc .vmem S1024x1024 .f32) (harg1 : arg1.IsWhole) (arg2 : Memref sig .tc .vmem S1024x8x128 .f32) (harg2 : arg2.IsWhole) (arg3 : Memref sig .tc .vmem S1024x8x128 .f32) (harg3 : arg3.IsWhole) (arg4 : Memref sig .tc .vmem S1024x1024 .f32) (harg4 : arg4.IsWhole) (harg5 : outM.IsWhole) (harg6 : bufM.IsWhole)
    (v2 v5 v7 : BitVec 32) (v12 : FVec F S1024x1024 .f32) (v95 : IVec S1024x1024 1) (v97 v99 : FVec F S1024x8x128 .f32) (v101 v240 v262 : FVec F S1024x1024 .f32)
    (t : Fin k0_t1_loop.trips) (u : Unit) :
    rsInv P κ ι c t.val
      ⊢ wp frame (wpE (defs₀ (F := F)) 𝒱₀ (c : Thread nD τ) none) Set.univ
          (k0_t1_body arg0 harg0 arg1 harg1 arg2 harg2 arg3 harg3 arg4 harg4 outM harg5 bufM harg6 cc0_scratch1 cc0_scratch2 cc0_scratch3 cc0_scratch4 cc0_scratch5
            c v2 v5 v7 v12 v95 v97 v99 v101 v240 v262 t u)
          fun _ => rsInv P κ ι c (t.val + 1) := by
  have ht := lt31 t
  unfold k0_t1_body
  rw [k0_part1_eq_skeleton]; unfold k0_part1_skel
  simp only [semSignalWord, semWaitWord, Prog.lift, Prog.bind_op, Prog.bind_ret, Prog.pure_eq_ret, dite_bind, one_toInt]
  unfold rsInv
  rw [bigSep_Ico_succ_bot (by omega : t.val + 1 < 32), bigSep_Ico_succ_bot ht]
  iintro ⟨#Ht, ⟨Hnx, Hchs⟩, Hch, Hb, Hbo, ⟨Htok, Htoks⟩, Hcd, Hcc, #Hns, Hst, Ho⟩
  iapply (rs_credit P κ ι c ht (rs_first t)) $$ [Hcc Hst Ho]
  · isplitr; · iexact Ht
    isplitl [Hcc]; · iexact Hcc
    isplitl [Hst] <;> iassumption
  iintro ⟨#Hn, Hcc, Hst, Ho⟩
  ihave #Hc := (told_ctx P κ ι c) $$ Ht
  ihave Htok := (rsTok_open c t.val) $$ Htok
  icases Htok with ⟨Hd, Hd', Hw, Hcr⟩
  ihave Hbo := (both_step (rsSlot (F := F) c) t.val) $$ Hbo
  icases Hbo with ⟨Hsl, Hbo⟩
  ihave Hsl := (rsSlot_open c ht) $$ Hsl
  icases Hsl with ⟨HaS, #HrS, HaR, Hrd⟩
  ihave Hn' := (need_open (right c) t.val) $$ Hn
  icases Hn' with ⟨#Hrel, #HrR⟩
  imod (Release.slot_take ES (ι := ι (right c, cur t.val)) (Es := Set.univ) (Set.mem_univ _) (t.val / 2 + 1)) $$ [Hw] with Hs
  · isplitr; · iapply (ctx_slot P κ ι (right c) (cur t.val)); iexact Hc
    isplitr; · iexact Hrel
    iexact Hw
  iapply (send_rs P κ ι c _ (dev3_eq c) ht (off3_eq c t ht) (off2_eq t) (rsSend_eq _ (off1_eq t) _) (rsRecv_eq _ (off1_eq t) _)) $$ [Hch Hb Hs Ho Hd Hd']
  · isplitr; · iexact Hc
    isplitl [Hch]; · iexact Hch
    isplitl [Hb]; · iexact Hb
    isplitl [Hs]; · iexact Hs
    isplitl [Ho]; · iexact Ho
    isplitl [Hd]; · iexact Hd
    isplitr; · iexact HrS
    isplitl [Hd']; · iexact Hd'
    iexact HrR
  iintro ⟨HcS, Ho⟩
  iapply (wait_rsS P κ ι c ht (rsSend_eq _ (off1_eq t) _) (credit_off3 c t)) $$ [HcS Ho HaS]
  · isplitr; · iexact Hc
    isplitl [HcS]; · iexact HcS
    isplitl [Ho] <;> iassumption
  iintro ⟨Ho, HaS, HrS'⟩
  iapply (wait_rsR P κ ι c ht (le_refl _) (rsRecv_eq _ (off1_eq t) _) (credit_off2 t)) $$ [Hcr Ho HaR]
  · isplitr; · iexact Hc
    isplitl [Hcr]; · iexact Hcr
    isplitl [Ho] <;> iassumption
  iintro ⟨Ho, HaR, #HrR', Hp⟩
  ihave Hp := (rsPay_open P c t.val) $$ Hp
  icases Hp with ⟨Hsv, Hb⟩
  iapply (load_chunk c _ _ (off4_eq c t ht)) $$ Hnx
  iintro Hnx
  iapply (load_slot c _ _ (off5_eq t)) $$ Hsv
  iintro %w %hw Hsv
  iapply (load_chunk c _ _ (off4_eq c t ht)) $$ Hnx
  iintro Hnx
  iapply (store_chunk c _ _ _ (off4_eq c t ht)) $$ Hnx
  iintro Hnx
  ihave Hnx := (Entails.of_eq (congrArg (chunkAt c (bk c (t.val + 1))) ((pay18_eq _ _ w hw).trans (acc_next P c ht)))) $$ Hnx
  ihave Hsv := (slotAt_any c _ _) $$ Hsv
  iapply (rs_release P κ ι c ht (rs_last t) (fun _ => dev4_eq c _)) $$ [Hsv Hrd Hcd Ho]
  · isplitr; · iexact Ht
    isplitl [Hsv]; · iexact Hsv
    isplitl [Hrd]; · iexact Hrd
    isplitr; · iexact HrR'
    isplitl [Hcd]; · iexact Hcd
    isplitr; · iexact Hns
    iexact Ho
  iintro ⟨Hrd, Hcd, #Hns', Ho⟩
  rw [wp_ret]
  imodintro
  isplitr; · iexact Ht
  isplitl [Hchs]; · iexact Hchs
  isplitl [Hnx]; · iexact Hnx
  isplitl [Hb]; · iexact Hb
  isplitl [Hbo HaS HrS' HaR Hrd]
  · iapply Hbo
    iapply (rsSlot_make c _ _)
    isplitl [HaS]; · iexact HaS
    isplitl [HrS']; · iexact HrS'
    isplitl [HaR] <;> iassumption
  isplitl [Htoks]; · iexact Htoks
  isplitl [Hcd]; · iexact Hcd
  isplitl [Hcc]; · iexact Hcc
  isplitr; · iexact Hns'
  isplitl [Hst] <;> iassumption

end Cert.RingProof

end
-- ==== Proof.AgLoop.lean ====
/-
  The all-gather: what device `c` holds before step `t`, and one step of it.
-/
module

public import proofs.«01_k».proof.Proof.RsLoop

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S1024x1024 .f32) (κ : GSem nD τ sig → ℕ) (ι : Key → ℕ)

/-- What step `s` uses up, -/
def agTok (c : Dev nD) (s : ℕ) : sProp 𝕄 :=
  iprop(dutyTok ER (agSendC c s) 0 0 ∗ reached ER (agSendC c s) 0 ∗ dutyTok ER (agRecvC (right c) s) 0 0
    ∗ cred (tallyAt (agRecvC c s) (2 * (31 + s) + 2) N) ∗ atPos ER (agSendC c s) 0 ∅ 0 ∗ atPos ER (agRecvC c s) 0 ∅ 0)
/-- and leaves. -/
def agDone (c : Dev nD) (s : ℕ) : sProp 𝕄 := iprop(atPos ER (agSendC c s) 1 ∅ 0 ∗ atPos ER (agRecvC c s) 1 ∅ 0)

/-- Before step `t`. -/
def agInv (c : Dev nD) (t : ℕ) : sProp 𝕄 :=
  iprop(told P κ ι c ∗ chunkAt c (bk c (31 + t)) (acc P (bk c (31 + t)) 31) ∗ baggage (bk c (31 + t)) (Finset.Ico t 31)
    ∗ (bigSep (Finset.range t) fun s => chunkAt c (bk c (31 + s)) (acc P (bk c (31 + s)) 31))
    ∗ bigSep (Finset.Ico t 31) (agTok c) ∗ bigSep (Finset.range t) (agDone c) ∗ ow c (owing c 31 29 t))

theorem lt31' (t : Fin k0_t2_loop.trips) : t.val < 31 := lt_of_lt_of_eq t.isLt trips2
theorem off6_eq (t : Fin k0_t2_loop.trips) : k0_off6 t = ![t.val] := by revert t; decide
theorem dev5_eq (c : Dev nD) : (⟨k0_dev5 c, k0_dev5_lt c⟩ : Dev nD) = right c := by revert c; decide
theorem credit_off7 (c : Dev nD) (t : Fin k0_t2_loop.trips) {inb} :
    (outM.slice (Rect.unit (s := S1024x1024) (k0_off7 c t) S32x1024.size inb) (fun _ => rfl)).view.dmaCredit = N := by
  revert inb; rw [off7_eq c t (lt31' t)]; intro inb; exact credit_chunk _

theorem agTok_open (c : Dev nD) (s : ℕ) :
    agTok (F := F) c s ⊢ iprop(dutyTok ER (agSendC c s) 0 0 ∗ reached ER (agSendC c s) 0 ∗ dutyTok ER (agRecvC (right c) s) 0 0
      ∗ cred (tallyAt (agRecvC c s) (2 * (31 + s) + 2) N) ∗ atPos ER (agSendC c s) 0 ∅ 0 ∗ atPos ER (agRecvC c s) 0 ∅ 0) := by
  unfold agTok; exact .rfl
theorem agPay_open (c : Dev nD) {t : ℕ} (ht : t < 31) :
    agPay P c t ⊢ iprop(chunkAt c (bk c (31 + (t + 1))) (acc P (bk c (31 + (t + 1))) 31) ∗ baggage (bk c (31 + (t + 1))) (Finset.Ico (t + 1) 31)) := by
  unfold agPay; rw [show 31 + (t + 1) = 32 + t by omega, bk_add c (by omega)]
theorem agBack_put (c : Dev nD) (t : ℕ) :
    iprop(agBack P c t ∗ bigSep (Finset.range t) fun s => chunkAt c (bk c (31 + s)) (acc P (bk c (31 + s)) 31))
      ⊢ bigSep (Finset.range (t + 1)) fun s => chunkAt c (bk c (31 + s)) (acc P (bk c (31 + s)) 31) := by
  rw [bigSep_range_succ]; unfold agBack; exact .rfl
theorem agDone_put (c : Dev nD) (t : ℕ) :
    iprop(atPos ER (agSendC c t) 1 ∅ 0 ∗ atPos ER (agRecvC c t) 1 ∅ 0 ∗ bigSep (Finset.range t) (agDone c))
      ⊢ bigSep (Finset.range (t + 1)) (agDone (F := F) c) := by
  rw [bigSep_range_succ]
  iintro ⟨H1, H2, H⟩
  isplitl [H1 H2]
  · unfold agDone; isplitl [H1] <;> iassumption
  iexact H
theorem told_ag (c : Dev nD) {t : ℕ} (ht : t < 31) : told P κ ι c ⊢ reached ER (agRecvC (right c) t) 0 := by
  unfold told
  iintro ⟨-, -, -, -, H⟩
  iapply (pick (Φ := fun t => reached ER (agRecvC (right c) t) 0) (Finset.mem_range.mpr ht)); iexact H

theorem ag_trip (c : Dev nD) (arg0 : Memref sig .tc .vmem S1024x1024 .f32) (harg0 : arg0.IsWhole) (arg1 : Memref sig .tc .vmem S1024x1024 .f32) (harg1 : arg1.IsWhole) (arg2 : Memref sig .tc .vmem S1024x8x128 .f32) (harg2 : arg2.IsWhole) (arg3 : Memref sig .tc .vmem S1024x8x128 .f32) (harg3 : arg3.IsWhole) (arg4 : Memref sig .tc .vmem S1024x1024 .f32) (harg4 : arg4.IsWhole) (harg5 : outM.IsWhole) (harg6 : bufM.IsWhole)
    (t : Fin k0_t2_loop.trips) (u : Unit) :
    agInv P κ ι c t.val
      ⊢ wp frame (wpE (defs₀ (F := F)) 𝒱₀ (c : Thread nD τ) none) Set.univ
          (k0_t2_body arg0 harg0 arg1 harg1 arg2 harg2 arg3 harg3 arg4 harg4 outM harg5 bufM harg6 cc0_scratch1 cc0_scratch2 cc0_scratch3 cc0_scratch4 cc0_scratch5 c t u)
          fun _ => agInv P κ ι c (t.val + 1) := by
  have ht := lt31' t
  unfold k0_t2_body
  simp only [Prog.lift, Prog.bind_op, Prog.bind_ret, Prog.pure_eq_ret]
  unfold agInv
  rw [bigSep_Ico_succ_bot ht]
  iintro ⟨#Ht, Hch, Hb, Hfin, ⟨Htok, Htoks⟩, Hdone, Ho⟩
  ihave #Hc := (told_ctx P κ ι c) $$ Ht
  ihave #HrR := (told_ag P κ ι c ht) $$ Ht
  ihave Htok := (agTok_open c t.val) $$ Htok
  icases Htok with ⟨Hd, HrS, Hd', Hcr, HaS, HaR⟩
  iapply (send_ag P κ ι c _ (dev5_eq c) ht (off7_eq c t ht) (agSend_eq ht (off6_eq t) _) (agRecv_eq ht (off6_eq t) _)) $$ [Hch Hb Ho Hd Hd' HrS]
  · isplitr; · iexact Hc
    isplitl [Hch]; · iexact Hch
    isplitl [Hb]; · iexact Hb
    isplitl [Ho]; · iexact Ho
    isplitl [Hd]; · iexact Hd
    isplitl [HrS]; · iexact HrS
    isplitl [Hd']; · iexact Hd'
    iexact HrR
  iintro ⟨HcS, Ho⟩
  iapply (wait_agS P κ ι c ht (agSend_eq ht (off6_eq t) _) (credit_off7 c t)) $$ [HcS Ho HaS]
  · isplitr; · iexact Hc
    isplitl [HcS]; · iexact HcS
    isplitl [Ho] <;> iassumption
  iintro ⟨Ho, HaS, Hbk⟩
  iapply (wait_agR P κ ι c ht (le_refl _) (le_refl _) (agRecv_eq ht (off6_eq t) _) (credit_off7 c t)) $$ [Hcr Ho HaR]
  · isplitr; · iexact Hc
    isplitl [Hcr]; · iexact Hcr
    isplitl [Ho] <;> iassumption
  iintro ⟨Ho, HaR, Hp⟩
  ihave Hp := (agPay_open P c ht) $$ Hp
  icases Hp with ⟨Hch, Hb⟩
  rw [wp_ret]
  imodintro
  isplitr; · iexact Ht
  isplitl [Hch]; · iexact Hch
  isplitl [Hb]; · iexact Hb
  isplitl [Hbk Hfin]
  · iapply (agBack_put P c t.val)
    isplitl [Hbk] <;> iassumption
  isplitl [Htoks]; · iexact Htoks
  isplitl [Hdone HaS HaR]
  · iapply (agDone_put c t.val)
    isplitl [HaS]; · iexact HaS
    isplitl [HaR] <;> iassumption
  iexact Ho

end Cert.RingProof

end
-- ==== Proof.Bar.lean ====
/-
  The barrier before the first pass: two signals and the wait for the neighbours' two.
-/
module

public import proofs.«01_k».proof.Proof.AgLoop

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S1024x1024 .f32) (κ : GSem nD τ sig → ℕ) (ι : Key → ℕ)

variable {α : Type}

/-- The signal to the left: the own two slots are free, the own all-gather semaphores open. -/
theorem signal_left {Q : α → sProp 𝕄} (c n : Dev nD) (hn : n = left c)
    {k : PUnit → Prog (TpuEff nD τ sig (Elt F) Λ₀ .tc) α} :
    iprop(ctx P κ ι ∗ ow (F := F) c (O₀ c) ∗ dutyTok ER (barC (left c)) 0 1 ∗ reached ER (barC (left c)) 0
        ∗ need c 0 ∗ need c 1 ∗ bigSep (Finset.range 31) fun t => reached ER (agRecvC c t) 0)
      ⊢ iprop((ow (F := F) c (owing c 0 0 0 + owBR c) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) barS 1) k) Q) := by
  subst hn
  iintro ⟨#Hc, Ho, Ht, Hr, Hp⟩ Hk
  unfold ow
  icases Ho with ⟨%W, Ho⟩
  iapply (Rounds.wp_signal 𝒱₀ ER (Rd P) (c : Thread nD τ) none (dst := (left c : Thread nD τ)) (sem := barS) (r := 0) (d := 1) (κ := κ (barC (left c)))
    (by rw [duties_bar]; decide) (amount_bar P (left c) 0 1) 1 (owing c 0 0 0 + owBR c) rfl) $$ [Ho Ht Hp Hr]
  · isplitr; · iapply (ctx_bar P κ ι (left c)); iexact Hc
    isplitl [Ho]; · iexact Ho
    isplitl [Ht]; · iexact Ht
    isplitl [Hp]
    · rw [pay_bar1]; unfold barPayR; rw [right_left]; iexact Hp
    iexact Hr
  iintro Ho
  iapply Hk
  iexists W; iexact Ho

/-- The signal to the right: the own credit semaphore is open. -/
theorem signal_right {Q : α → sProp 𝕄} (c n : Dev nD) (hn : n = right c)
    {k : PUnit → Prog (TpuEff nD τ sig (Elt F) Λ₀ .tc) α} :
    iprop(ctx P κ ι ∗ ow (F := F) c (owing c 0 0 0 + owBR c) ∗ dutyTok ER (barC (right c)) 0 0 ∗ reached ER (barC (right c)) 0 ∗ reached ER (crC c) 0)
      ⊢ iprop((ow (F := F) c (owing c 0 0 0) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) barS 1) k) Q) := by
  subst hn
  iintro ⟨#Hc, Ho, Ht, Hr, Hp⟩ Hk
  unfold ow
  icases Ho with ⟨%W, Ho⟩
  iapply (Rounds.wp_signal 𝒱₀ ER (Rd P) (c : Thread nD τ) none (dst := (right c : Thread nD τ)) (sem := barS) (r := 0) (d := 0) (κ := κ (barC (right c)))
    (by rw [duties_bar]; decide) (amount_bar P (right c) 0 0) 1 (owing c 0 0 0) rfl) $$ [Ho Ht Hp Hr]
  · isplitr; · iapply (ctx_bar P κ ι (right c)); iexact Hc
    isplitl [Ho]; · iexact Ho
    isplitl [Ht]; · iexact Ht
    isplitl [Hp]
    · rw [pay_bar0]; unfold barPayL; rw [left_right]; iexact Hp
    iexact Hr
  iintro Ho
  iapply Hk
  iexists W; iexact Ho

/-- The wait for both neighbours. -/
theorem wait_bar {Q : α → sProp 𝕄} (c : Dev nD)
    {k : PUnit → Prog (TpuEff nD τ sig (Elt F) Λ₀ .tc) α} :
    iprop(ctx P κ ι ∗ cred (tallyAt (barC c) 1 2) ∗ ow (F := F) c (owing c 0 0 0) ∗ atPos ER (barC c) 0 ∅ 0)
      ⊢ iprop(((ow (F := F) c (owing c 0 0 0) ∗ atPos ER (barC c) 1 ∅ 0 ∗ told P κ ι c) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 2) k) Q) := by
  have hmw := (@ctx_lev F _ P κ ι).trans (mayWait (F := F) c (.reg barS) 1 (a := 0) (b := 0) (e := 0) (fun _ => by omega) (fun _ => by omega) (fun _ => by omega) (by omega))
  iintro ⟨#Hc, Hcr, Ho, Hat⟩ Hk
  unfold ow
  icases Ho with ⟨%W, Ho⟩
  iapply (Rounds.wp_wait_rest_token 𝒱₀ ER (Rd P) (c : Thread nD τ) none (κ := κ (barC c))
    (wpE_semWait_eq 𝒱₀ (c : Thread nD τ) none Set.univ) (Set.mem_univ _) 1 (O := owing c 0 0 0) (W := W) (R := 0) (m := 0) (T := ∅)
    (by rw [Nat.zero_add, expect_bar P c])) $$ [Hcr Ho Hat]
  · isplitr; · iapply (ctx_bar P κ ι c); iexact Hc
    isplitl [Hcr]; · iexact Hcr
    isplitl [Ho]; · iexact Ho
    isplitr
    · iapply hmw; iexact Hc
    iexact Hat
  iintro ⟨Ho, Hat, -, Hp⟩
  ihave Hp := (rest_bar P c) $$ Hp
  icases Hp with ⟨HL, HR⟩
  iapply Hk
  isplitl [Ho]; · iexists _; iexact Ho
  isplitl [Hat]; · iexact Hat
  unfold told barPayL barPayR
  icases HR with ⟨H0, H1, Hag⟩
  isplitr; · iexact Hc
  isplitl [H0]; · iexact H0
  isplitl [H1]; · iexact H1
  isplitl [HL]; · iexact HL
  iexact Hag

end Cert.RingProof

end
-- ==== Proof.Ends.lean ====
/-
  What device `c` brings to the two passes, how they begin, how the first hands over to the second, and what is left: all
  semaphores at zero, the receive buffer, and the sum in the output buffer.
-/
module

public import proofs.«01_k».proof.Proof.Bar

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → Vec F S1024x1024 .f32) (κ : GSem nD τ sig → ℕ) (ι : Key → ℕ)

/-! ## The semaphores together -/

theorem steps31 (Φ : ℕ → sProp 𝕄) : bigSep (Finset.univ : Finset (Fin 31)) (fun t => Φ t.val) = bigSep (Finset.range 31) Φ := by
  rw [show Finset.range 31 = Finset.univ.map (Fin.valEmbedding : Fin 31 ↪ ℕ) by
    ext x; simp only [Finset.mem_range, Finset.mem_map, Finset.mem_univ, true_and, Fin.valEmbedding_apply]
    exact ⟨fun h => ⟨⟨x, h⟩, rfl⟩, fun ⟨a, ha⟩ => ha ▸ a.isLt⟩, bigSep_map]
  rfl

theorem sepBoth {I : Type} (s : Finset I) (Φ Ψ : I → sProp 𝕄) :
    bigSep s (fun i => iprop(Φ i ∗ Ψ i)) = iprop(bigSep s Φ ∗ bigSep s Ψ) := bigSep_sep s Φ Ψ

theorem own_split (Φ : KO → sProp 𝕄) :
    bigSep Finset.univ Φ = iprop((Φ (.inl 0) ∗ Φ (.inl 1)) ∗ (Φ (.inr (.inl 0)) ∗ Φ (.inr (.inl 1)))
      ∗ (bigSep Finset.univ fun t : Fin 31 => Φ (.inr (.inr (.inl t)))) ∗ (bigSep Finset.univ fun t : Fin 31 => Φ (.inr (.inr (.inr (.inl t)))))
      ∗ Φ (.inr (.inr (.inr (.inr ()))))) := by
  rw [bigSep_univ_sum, bigSep_univ_sum, bigSep_univ_sum, bigSep_univ_sum, bigSep_fin_two, bigSep_fin_two,
    show (Finset.univ : Finset Unit) = {()} from rfl, bigSep_singleton]
  rfl

/-! ## What a device brings -/

/-- What step `s` of the all-gather is dealt. -/
def agDeal (c : Dev nD) (s : ℕ) : sProp 𝕄 :=
  iprop(dutyTok ER (agSendC c s) 0 0 ∗ dutyTok ER (agRecvC (right c) s) 0 0 ∗ cred (tallyAt (agRecvC c s) (2 * (31 + s) + 2) N))

/-- What device `c` carries from launch, but for the right to its own semaphores. -/
def dealt (c : Dev nD) : sProp 𝕄 :=
  iprop((atPos ER (barC c) 0 ∅ 0 ∗ reached ER (barC (left c)) 0 ∗ reached ER (barC (right c)) 0
      ∗ dutyTok ER (barC (left c)) 0 1 ∗ dutyTok ER (barC (right c)) 0 0 ∗ cred (tallyAt (barC c) 1 2))
    ∗ (Release.readerAt ES (c, 0) 0 ∗ Release.readerAt ES (c, 1) 0)
    ∗ bigSep (Finset.Ico 0 31) (rsTok c)
    ∗ (bigSep (Finset.Ico 0 29) fun j => dutyTok ER (crC (left c)) 0 j)
    ∗ (bigSep (Finset.Ico 0 29) fun j => cred (tallyAt (crC c) (2 * j + 3) 1))
    ∗ bigSep (Finset.Ico 0 31) (agDeal c))

/-- The own semaphores, opened. -/
def opened (c : Dev nD) : sProp 𝕄 :=
  bigSep Finset.univ fun k : KO => iprop(atPos ER (((c : Thread nD τ), osem k) : GSem nD τ sig) 0 ∅ 0 ∗ reached ER (((c : Thread nD τ), osem k) : GSem nD τ sig) 0)

theorem opened_split (c : Dev nD) :
    opened (F := F) c ⊢ iprop(((atPos ER (rsSendC c 0) 0 ∅ 0 ∗ reached ER (rsSendC c 0) 0) ∗ (atPos ER (rsSendC c 1) 0 ∅ 0 ∗ reached ER (rsSendC c 1) 0))
      ∗ ((atPos ER (rsRecvC c 0) 0 ∅ 0 ∗ reached ER (rsRecvC c 0) 0) ∗ (atPos ER (rsRecvC c 1) 0 ∅ 0 ∗ reached ER (rsRecvC c 1) 0))
      ∗ (bigSep (Finset.Ico 0 31) fun t => iprop(atPos ER (agSendC c t) 0 ∅ 0 ∗ reached ER (agSendC c t) 0))
      ∗ (bigSep (Finset.Ico 0 31) fun t => iprop(atPos ER (agRecvC c t) 0 ∅ 0 ∗ reached ER (agRecvC c t) 0))
      ∗ (atPos ER (crC c) 0 ∅ 0 ∗ reached ER (crC c) 0)) := by
  unfold opened
  rw [own_split, ← Finset.range_eq_Ico, ← steps31, ← steps31]

/-- The all-gather's steps, complete. -/
theorem agToks (c : Dev nD) :
    iprop(bigSep (Finset.Ico 0 31) (agDeal (F := F) c)
        ∗ (bigSep (Finset.Ico 0 31) fun t => iprop(atPos ER (agSendC c t) 0 ∅ 0 ∗ reached ER (agSendC c t) 0))
        ∗ (bigSep (Finset.Ico 0 31) fun t => iprop(atPos ER (agRecvC c t) 0 ∅ 0)))
      ⊢ bigSep (Finset.Ico 0 31) (agTok c) := by
  rw [← sepBoth, ← sepBoth]
  refine onEach fun s _ => ?_
  unfold agDeal agTok
  iintro ⟨⟨H1, H2, H3⟩, ⟨H4, H5⟩, H6⟩
  isplitl [H1]; · iexact H1
  isplitl [H5]; · iexact H5
  isplitl [H2]; · iexact H2
  isplitl [H3]; · iexact H3
  isplitl [H4] <;> iassumption

theorem needs_make (c : Dev nD) (p : Fin 2) : iprop(Release.released ES (c, p) 1 ∗ reached ER (rsRecvC c p) 0) ⊢ (need c p.val : sProp 𝕄) := by
  unfold need
  rw [show cur p.val = p from Fin.ext (by have := p.isLt; simp only [cur]; omega), show p.val / 2 = 0 by have := p.isLt; omega]

theorem crState_zero (c : Dev nD) : atPos ER (crC c) 0 ∅ 0 ⊢ crState (F := F) c 0 := by
  unfold crState
  iintro H
  iexists ∅
  isplitr; · ipureintro; exact ⟨Finset.empty_subset _, Nat.zero_le _⟩
  isplitl [H]; · iexact H
  rw [bigSep_empty]
  iempintro

theorem rdr_zero (c : Dev nD) (p : Fin 2) : Release.readerAt ES (c, p) (0 + 1) ⊢ rdr (F := F) c p 0 := by
  unfold rdr; rw [if_pos (by have := p.isLt; omega)]

/-- What the first pass starts from, beside the output buffer and what the barrier tells. -/
def ready (c : Dev nD) : sProp 𝕄 :=
  iprop(both (rsSlot c) 0 ∗ bigSep (Finset.Ico 0 31) (rsTok c)
    ∗ (bigSep (Finset.Ico 0 29) fun j => dutyTok ER (crC (left c)) 0 j)
    ∗ (bigSep (Finset.Ico 0 29) fun j => cred (tallyAt (crC c) (2 * j + 3) 1))
    ∗ crState c 0 ∗ bigSep (Finset.Ico 0 31) (agTok c))

/-- What the barrier takes. -/
def barIn (c : Dev nD) : sProp 𝕄 :=
  iprop((atPos ER (barC c) 0 ∅ 0 ∗ reached ER (barC (left c)) 0 ∗ reached ER (barC (right c)) 0
      ∗ dutyTok ER (barC (left c)) 0 1 ∗ dutyTok ER (barC (right c)) 0 0 ∗ cred (tallyAt (barC c) 1 2))
    ∗ need c 0 ∗ need c 1 ∗ (bigSep (Finset.range 31) fun t => reached ER (agRecvC c t) 0) ∗ reached ER (crC c) 0)

/-- Releasing both slots for the first time. -/
theorem enter (c : Dev nD) :
    iprop(ctx P κ ι ∗ dealt c ∗ opened c ∗ slotAny c 0 ∗ slotAny c 1) ⊢ iprop(|={Set.univ}=> (barIn (F := F) c ∗ ready c)) := by
  unfold dealt
  iintro ⟨#Hc, ⟨Hbar, ⟨Hr0, Hr1⟩, Hrs, Hcd, Hcc, Hag⟩, Hop, Hs0, Hs1⟩
  ihave Hop := (opened_split c) $$ Hop
  icases Hop with ⟨⟨⟨HaS0, HrS0⟩, ⟨HaS1, HrS1⟩⟩, ⟨⟨HaR0, #HrR0⟩, ⟨HaR1, #HrR1⟩⟩, HagS, HagR, ⟨Hacr, #Hrcr⟩⟩
  ihave HagR := (Entails.of_eq (sepBoth (Finset.Ico 0 31) (fun t => atPos ER (agRecvC c t) 0 ∅ 0) (fun t => (reached ER (agRecvC c t) 0 : sProp 𝕄)))) $$ HagR
  icases HagR with ⟨HagR, HagRr⟩
  imod (Release.slot_release ES (ι := ι (c, 0)) (Es := Set.univ) (Set.mem_univ _) (slotAny_false c 0) 0) $$ [Hs0 Hr0] with ⟨Hr0, #Hrel0⟩
  · isplitr; · iapply (ctx_slot P κ ι c 0); iexact Hc
    isplitl [Hr0] <;> iassumption
  imod (Release.slot_release ES (ι := ι (c, 1)) (Es := Set.univ) (Set.mem_univ _) (slotAny_false c 1) 0) $$ [Hs1 Hr1] with ⟨Hr1, #Hrel1⟩
  · isplitr; · iapply (ctx_slot P κ ι c 1); iexact Hc
    isplitl [Hr1] <;> iassumption
  imodintro
  unfold barIn ready
  isplitl [Hbar HagRr]
  · isplitl [Hbar]; · iexact Hbar
    isplitr
    · iapply (needs_make c 0); isplitr <;> iassumption
    isplitr
    · iapply (needs_make c 1); isplitr <;> iassumption
    isplitl [HagRr]
    · rw [Finset.range_eq_Ico]; iexact HagRr
    iexact Hrcr
  isplitl [HaS0 HrS0 HaS1 HrS1 HaR0 HaR1 Hr0 Hr1]
  · unfold both rsSlot
    isplitl [HaS0 HrS0 HaR0 Hr0]
    · isplitl [HaS0]; · iexact HaS0
      isplitl [HrS0]; · iexact HrS0
      isplitl [HaR0]; · iexact HaR0
      iapply (rdr_zero c 0); iexact Hr0
    · isplitl [HaS1]; · iexact HaS1
      isplitl [HrS1]; · iexact HrS1
      isplitl [HaR1]; · iexact HaR1
      iapply (rdr_zero c 1); iexact Hr1
  isplitl [Hrs]; · iexact Hrs
  isplitl [Hcd]; · iexact Hcd
  isplitl [Hcc]; · iexact Hcc
  isplitl [Hacr]; · iapply (crState_zero c); iexact Hacr
  iapply (agToks c)
  isplitl [Hag]; · iexact Hag
  isplitl [HagS] <;> iassumption

/-! ## Between the passes -/

/-- What the first pass leaves beside the chunk it sends on. -/
def rsLeft (c : Dev nD) : sProp 𝕄 := iprop(both (rsSlot c) 31 ∗ crState c 29)

theorem chunk_first (c : Dev nD) :
    chunkAt c (bk c (0 + 0)) (fun j => P c ((chunkR (bk c (0 + 0))).emb j)) ⊢ chunkAt c (bk c 0) (acc P (bk c 0) 0) := by
  unfold acc part
  rw [bk_zero]

theorem chunk_rest (c : Dev nD) :
    (bigSep (Finset.Ico (0 + 1) 32) fun s => chunkAt c (bk c (0 + s)) (fun j => P c ((chunkR (bk c (0 + s))).emb j)))
      ⊢ bigSep (Finset.Ico (0 + 1) 32) fun s => chunkAt c (bk c s) (part P c (bk c s)) :=
  onEach fun s _ => Entails.of_eq (by rw [Nat.zero_add]; rfl)

theorem rs_start (c : Dev nD) :
    iprop(told P κ ι c ∗ (((c : Thread nD τ).loc cc0_stg5_0) ↦{fullShare} P c) ∗ ow c (owing c 0 0 0) ∗ ready c)
      ⊢ iprop(rsInv P κ ι c 0 ∗ bigSep (Finset.Ico 0 31) (agTok c)) := by
  unfold ready rsInv baggage
  iintro ⟨#Ht, Hout, Ho, Hbo, Hrs, Hcd, Hcc, Hst, Hag⟩
  ihave Hout := (out_split c (P c)) $$ Hout
  ihave Hout := (Entails.of_eq ((chunks_order c 0 (by omega) _).trans (by rw [Finset.range_eq_Ico, bigSep_Ico_succ_bot (by omega : 0 < 32)]))) $$ Hout
  icases Hout with ⟨Hch, Hchs⟩
  isplitr [Hag]; swap; · iexact Hag
  isplitr; · iexact Ht
  isplitl [Hchs]
  · iapply (chunk_rest P c); iexact Hchs
  isplitl [Hch]; · iapply (chunk_first P c); iexact Hch
  isplitr; · rw [Finset.range_zero, bigSep_empty]; iempintro
  isplitl [Hbo]; · iexact Hbo
  isplitl [Hrs]; · iexact Hrs
  isplitl [Hcd]; · iexact Hcd
  isplitl [Hcc]; · iexact Hcc
  isplitr; · rw [show min 0 29 = 0 from rfl, Finset.range_zero, bigSep_empty]; iempintro
  isplitl [Hst]; · iexact Hst
  iexact Ho

theorem ag_start (c : Dev nD) :
    iprop(rsInv P κ ι c 31 ∗ bigSep (Finset.Ico 0 31) (agTok c)) ⊢ iprop(agInv P κ ι c 0 ∗ rsLeft c) := by
  unfold rsInv agInv rsLeft
  iintro ⟨⟨#Ht, -, Hch, Hb, Hbo, -, -, -, -, Hst, Ho⟩, Hag⟩
  isplitr [Hbo Hst]; swap
  · isplitl [Hbo] <;> iassumption
  isplitr; · iexact Ht
  isplitl [Hch]; · iexact Hch
  isplitl [Hb]; · rw [← Finset.range_eq_Ico]; iexact Hb
  isplitr; · rw [Finset.range_zero, bigSep_empty]; iempintro
  isplitl [Hag]; · iexact Hag
  isplitr; · rw [Finset.range_zero, bigSep_empty]; iempintro
  rw [owing_cr_end c (by omega : 29 ≤ 29) (by omega : 29 ≤ 31)]; iexact Ho

/-! ## The end -/

/-- The sum of all partial products, as the passes leave it. -/
def sumAll : Vec F S1024x1024 .f32 := fun i =>
  acc P ⟨(i 0).val / 32, by have : (i 0).val < 1024 := (i 0).isLt; show _ < 32; omega⟩ 31
    (fun | 0 => ⟨(i 0).val % 32, Nat.mod_lt _ (by decide)⟩ | 1 => i 1)

theorem sumAll_chunk (q : Dev nD) : (fun j => sumAll P ((chunkR q).emb j)) = acc P q 31 := by
  funext j
  have hj0 : (j 0).val < 32 := (j 0).isLt
  have hq : q.val < 32 := q.isLt
  have h0 : ((chunkR q).emb j 0).val = 32 * q.val + (j 0).val := by
    rw [Rect.emb_apply]; simp
  have h1 : ((chunkR q).emb j 1).val = (j 1).val := by
    rw [Rect.emb_apply]; simp
  unfold sumAll
  congr 1
  · refine Fin.ext ?_; show ((chunkR q).emb j 0).val / 32 = q.val; rw [h0]; omega
  · funext a; fin_cases a
    · apply Fin.ext; show ((chunkR q).emb j 0).val % 32 = (j 0).val; rw [h0]; omega
    · apply Fin.ext; exact h1

theorem out_done (c : Dev nD) :
    iprop(chunkAt c (bk c (31 + 31)) (acc P (bk c (31 + 31)) 31)
        ∗ bigSep (Finset.range 31) fun s => chunkAt c (bk c (31 + s)) (acc P (bk c (31 + s)) 31))
      ⊢ (((c : Thread nD τ).loc cc0_stg5_0) ↦{fullShare} sumAll P : sProp 𝕄) := by
  have e : (fun q => (chunkAt c q (fun j => sumAll P ((chunkR q).emb j)) : sProp 𝕄)) = fun q => chunkAt c q (acc P q 31) :=
    funext fun q => congrArg (chunkAt c q) (sumAll_chunk P q)
  refine BIBase.Entails.trans ?_ (out_join c (sumAll P))
  rw [e, chunks_order c 31 (by omega), bigSep_range_succ 31]

/-- Closing a semaphore past its last round. -/
theorem shut {g : GSem nD τ sig} (n : ℕ) (h : ∀ r, n ≤ r → (Rd P).duties g r = ∅) :
    iprop(cellInv ER (Rd P) (κ g) g ∗ atPos ER g n ∅ 0) ⊢ iprop(|={Set.univ}=> (semVal g 0 : sProp 𝕄)) :=
  Rounds.cell_close ER (Rd P) (Set.mem_univ _) id h

theorem shut_ag (c : Dev nD) {t : ℕ} (ht : t < 31) :
    iprop(ctx P κ ι ∗ agDone c t) ⊢ iprop(|={Set.univ}=> (semVal (agSendC c t) 0 ∗ semVal (agRecvC c t) 0 : sProp 𝕄)) := by
  unfold agDone
  iintro ⟨#Hc, H1, H2⟩
  imod (shut P κ (g := agSendC c t) 1 (done_agS P c ht)) $$ [H1] with H1
  · isplitr; · iapply (ctx_agS P κ ι c ht); iexact Hc
    iexact H1
  imod (shut P κ (g := agRecvC c t) 1 (done_agR P c ht)) $$ [H2] with H2
  · isplitr; · iapply (ctx_agR P κ ι c ht); iexact Hc
    iexact H2
  imodintro
  isplitl [H1] <;> iassumption

theorem shut_rs (c : Dev nD) (p : Fin 2) {n : ℕ} (h : 31 ≤ 2 * n + p.val) :
    iprop(ctx P κ ι ∗ rsSlot c p n) ⊢ iprop(|={Set.univ}=> (semVal (rsSendC c p) 0 ∗ semVal (rsRecvC c p) 0 ∗ slotAny c p : sProp 𝕄)) := by
  unfold rsSlot rdr
  rw [if_neg (by omega)]
  iintro ⟨#Hc, H1, -, H2, Hs⟩
  imod (shut P κ (g := rsSendC c p) n (done_rsS P c p h)) $$ [H1] with H1
  · isplitr; · iapply (ctx_rsS P κ ι c p); iexact Hc
    iexact H1
  imod (shut P κ (g := rsRecvC c p) n (done_rsR P c p h)) $$ [H2] with H2
  · isplitr; · iapply (ctx_rsR P κ ι c p); iexact Hc
    iexact H2
  imodintro
  isplitl [H1]; · iexact H1
  isplitl [H2] <;> iassumption

theorem shut_cr (c : Dev nD) :
    iprop(ctx P κ ι ∗ crState c 29) ⊢ iprop(|={Set.univ}=> (semVal (crC c) 0 : sProp 𝕄)) := by
  unfold crState
  iintro ⟨#Hc, %T, %hT, Hat, -⟩
  have hTe : T = Finset.range 29 := Finset.eq_of_subset_of_card_le hT.1 (by rw [Finset.card_range]; exact hT.2)
  imod (Rounds.fupd_skip ER (Rd P) (g := crC c) (κ := κ (crC c)) (R := 0) (m := 29) (T := T) (by rw [duties_cr, hTe]) (by rw [expect_cr]) (Set.mem_univ _)) $$ [Hat] with ⟨Hat, -⟩
  · isplitr; · iapply (ctx_cr P κ ι c); iexact Hc
    iexact Hat
  iapply (shut P κ (g := crC c) 1 (done_cr P c))
  isplitr; · iapply (ctx_cr P κ ι c); iexact Hc
  iexact Hat

theorem shut_bar (c : Dev nD) :
    iprop(ctx P κ ι ∗ atPos ER (barC c) 1 ∅ 0) ⊢ iprop(|={Set.univ}=> (semVal (barC c) 0 : sProp 𝕄)) := by
  iintro ⟨#Hc, Hat⟩
  iapply (shut P κ (g := barC c) 1 (done_bar P c))
  isplitr; · iapply (ctx_bar P κ ι c); iexact Hc
  iexact Hat

theorem shut_ags (c : Dev nD) :
    iprop(ctx P κ ι ∗ bigSep (Finset.range 31) (agDone c))
      ⊢ iprop(|={Set.univ}=> ((bigSep (Finset.range 31) fun t => semVal (agSendC c t) 0) ∗ (bigSep (Finset.range 31) fun t => semVal (agRecvC c t) 0) : sProp 𝕄)) := by
  rw [← sepBoth]
  exact BIBase.Entails.trans (bigSep_with_persistent fun t ht => shut_ag P κ ι c (Finset.mem_range.mp ht)) (bigSep_fupd _ _)

/-- All own semaphores at zero. -/
def ownZero (c : Dev nD) : sProp 𝕄 := bigSep Finset.univ fun k : KO => semVal (((c : Thread nD τ), osem k) : GSem nD τ sig) 0

theorem ownZero_make (c : Dev nD) :
    iprop((semVal (rsSendC c 0) 0 ∗ semVal (rsSendC c 1) 0) ∗ (semVal (rsRecvC c 0) 0 ∗ semVal (rsRecvC c 1) 0)
        ∗ (bigSep (Finset.range 31) fun t => semVal (agSendC c t) 0) ∗ (bigSep (Finset.range 31) fun t => semVal (agRecvC c t) 0)
        ∗ semVal (crC c) 0) ⊢ ownZero (F := F) c := by
  unfold ownZero
  rw [own_split, ← steps31, ← steps31]

/-- What the body leaves. -/
def left_over (c : Dev nD) : sProp 𝕄 :=
  iprop(semVal (barC c) 0 ∗ ownZero c ∗ slotAny c 0 ∗ slotAny c 1 ∗ (((c : Thread nD τ).loc cc0_stg5_0) ↦{fullShare} sumAll P) ∗ ow c 0)

theorem leave (c : Dev nD) :
    iprop(agInv P κ ι c 31 ∗ rsLeft c ∗ atPos ER (barC c) 1 ∅ 0) ⊢ iprop(|={Set.univ}=> left_over P c) := by
  unfold agInv rsLeft both left_over
  iintro ⟨⟨#Ht, Hch, -, Hfin, -, Hd, Ho⟩, ⟨⟨Hs0, Hs1⟩, Hst⟩, Hb⟩
  ihave #Hc := (told_ctx P κ ι c) $$ Ht
  imod (shut_rs P κ ι c 0 (n := (31 + 1) / 2) (by decide)) $$ [Hs0] with ⟨H1, H2, H3⟩
  · isplitr <;> iassumption
  imod (shut_rs P κ ι c 1 (n := 31 / 2) (by decide)) $$ [Hs1] with ⟨H4, H5, H6⟩
  · isplitr <;> iassumption
  imod (shut_cr P κ ι c) $$ [Hst] with H7
  · isplitr <;> iassumption
  imod (shut_bar P κ ι c) $$ [Hb] with H8
  · isplitr <;> iassumption
  imod (shut_ags P κ ι c) $$ [Hd] with ⟨H9, H10⟩
  · isplitr <;> iassumption
  imodintro
  isplitl [H8]; · iexact H8
  isplitl [H1 H2 H4 H5 H7 H9 H10]
  · iapply (ownZero_make c)
    isplitl [H1 H4]; · isplitl [H1] <;> iassumption
    isplitl [H2 H5]; · isplitl [H2] <;> iassumption
    isplitl [H9]; · iexact H9
    isplitl [H10] <;> iassumption
  isplitl [H3]; · iexact H3
  isplitl [H6]; · iexact H6
  isplitl [Hch Hfin]
  · iapply (out_done P c)
    isplitl [Hch] <;> iassumption
  rw [owing_done c (le_refl 31) (le_refl 29) (le_refl 31)]; iexact Ho

end Cert.RingProof

end
-- ==== Proof.Body.lean ====
/-
  The kernel's body on device `c`: what it computes from its five operands, then the barrier and the two passes round the
  ring, and what is left at the end.
-/
module

public import proofs.«01_k».proof.Proof.Ends

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What one device computes -/

/-- The first half of the mask's test. -/
def maskA : IVec S1024x1024 32 := k0_pay3 k0_pay2 4#32
/-- The divisor of the second half. -/
def maskB : BitVec 32 := Scalar.select (Scalar.cmpi .eq 4#32 0#32) 1#32 4#32
/-- The column numbers, a block at a time. -/
def maskC : IVec S1024x1024 32 := k0_pay4 (iota .tc S1024x1024 32 [1] iota_S1024x1024_d1_w32)
/-- The mask. -/
def mask : IVec S1024x1024 1 := k0_pay5 maskA maskB maskC 0#32

/-- The attention of the device's eight heads, projected: its addend of the sum. -/
def layer (x wq : Vec F S1024x1024 .f32) (kk vv : Vec F S1024x8x128 .f32) (wo : Vec F S1024x1024 .f32) : Vec F S1024x1024 .f32 :=
  let q := k0_pay1 x wq
  let k := k0_pay6 kk
  let v := k0_pay7 vv
  let w := k0_pay8 wo
  let a1 := k0_pay11 q mask k v w (k0_pay9 (F := F)) (k0_pay10 q maskA maskB maskC 0#32 kk vv wo)
  let a2 := k0_pay13 q mask k v w a1 (k0_pay12 q mask k v w)
  let a3 := k0_pay15 q mask k v w a2 (k0_pay14 q mask k v w)
  k0_pay17 q mask k v w a3 (k0_pay16 q mask k v w)

/-! ## Whole buffers -/

variable {α : Type}

theorem load_all {Q : α → sProp 𝕄} (c : Dev nD) {s : Shape} {e : EltTy} (m : Memref sig .tc .vmem s e) {r : LoadRect s} {hl : m.view.LoadsAt r}
    (X : Buf (Elt F) (m.view.loc (c : Thread nD τ))) (Y : r.shape.Idx → Elt F e) (h : m.view.readAt (Elt F) r X = Y)
    {k : (r.shape.Idx → Elt F e) → Prog (TpuEff nD τ sig (Elt F) Λ₀ .tc) α} :
    ((m.view.loc (c : Thread nD τ)) ↦{fullShare} X)
      ⊢ iprop((((m.view.loc (c : Thread nD τ)) ↦{fullShare} X) -∗ wp frame (wpE (defs₀ (F := F)) 𝒱₀ (c : Thread nD τ) none) Set.univ (k Y) Q)
        -∗ wp frame (wpE (defs₀ (F := F)) 𝒱₀ (c : Thread nD τ) none) Set.univ (.op (.load m r hl) k) Q) := by
  subst h
  exact wp_load (defs := defs₀ (F := F)) 𝒱₀ (c : Thread nD τ) none Set.univ (Finset.subset_univ _)

theorem store_all {Q : α → sProp 𝕄} (c : Dev nD) {s : Shape} {e : EltTy} (m : Memref sig .tc .vmem s e) {r : Rect s} {w : r.shape.Idx → Elt F e}
    {Mk : Finset r.shape.Idx} {hx : (m.access r).Stores Mk} {hm : Mk = Finset.univ ∨ ∀ a, r.stride a = 1}
    (f X : Buf (Elt F) ((m.access r).loc (c : Thread nD τ))) (h : (m.access r).write (Elt F) f w Mk = X)
    {k : PUnit → Prog (TpuEff nD τ sig (Elt F) Λ₀ .tc) α} :
    (((m.access r).loc (c : Thread nD τ)) ↦{fullShare} f)
      ⊢ iprop(((((m.access r).loc (c : Thread nD τ)) ↦{fullShare} X) -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Mk hx hm) k) Q) := by
  subst h
  exact wp_store (defs := defs₀ (F := F)) 𝒱₀ (c : Thread nD τ) none Set.univ (Finset.subset_univ _)

theorem zero2 : (![0, 0] : Fin 2 → ℕ) = fun _ => 0 := by funext i; fin_cases i <;> rfl
theorem zero3 : (![0, 0, 0] : Fin 3 → ℕ) = fun _ => 0 := by funext i; fin_cases i <;> rfl

theorem dev1_eq (c : Dev nD) : (⟨k0_dev1 c, k0_dev1_lt c⟩ : Dev nD) = left c := by
  revert c; decide +kernel
theorem dev2_eq (c : Dev nD) : (⟨k0_dev2 c, k0_dev2_lt c⟩ : Dev nD) = right c := by
  revert c; decide +kernel
theorem two_toInt : (2#32 : BitVec 32).toInt = 2 := by decide

/-! ## The run -/

variable (P : Dev nD → Vec F S1024x1024 .f32) (κ : GSem nD τ sig → ℕ) (ι : Key → ℕ)

/-- The five operands as staged. -/
def staged (c : Dev nD) (x wq : Vec F S1024x1024 .f32) (kk vv : Vec F S1024x8x128 .f32) (wo : Vec F S1024x1024 .f32) : sProp 𝕄 :=
  iprop((((c : Thread nD τ).loc cc0_stg0_0) ↦{fullShare} x) ∗ (((c : Thread nD τ).loc cc0_stg1_0) ↦{fullShare} wq)
    ∗ (((c : Thread nD τ).loc cc0_stg2_0) ↦{fullShare} kk) ∗ (((c : Thread nD τ).loc cc0_stg3_0) ↦{fullShare} vv)
    ∗ (((c : Thread nD τ).loc cc0_stg4_0) ↦{fullShare} wo))

set_option maxHeartbeats 1600000 in
theorem body_run {Q : PUnit → sProp 𝕄} (c : Dev nD) (h0 h1 h2 h3 h4 h5 h6)
    (x wq : Vec F S1024x1024 .f32) (kk vv : Vec F S1024x8x128 .f32) (wo f : Vec F S1024x1024 .f32) (hP : layer x wq kk vv wo = P c) :
    iprop(ctx P κ ι ∗ dealt c ∗ opened c ∗ slotAny c 0 ∗ slotAny c 1 ∗ staged c x wq kk vv wo
        ∗ (((c : Thread nD τ).loc cc0_stg5_0) ↦{fullShare} f) ∗ ow c (O₀ c)
        ∗ (iprop(left_over P c ∗ staged c x wq kk vv wo) -∗ Q ⟨⟩))
      ⊢ wp frame (wpE (defs₀ (F := F)) 𝒱₀ (c : Thread nD τ) none) Set.univ
          (cc0_body (Memref.whole cc0_stg0_0) h0 (Memref.whole cc0_stg1_0) h1 (Memref.whole cc0_stg2_0) h2 (Memref.whole cc0_stg3_0) h3
            (Memref.whole cc0_stg4_0) h4 (Memref.whole cc0_stg5_0) h5 (Memref.whole cc0_scratch0) h6
            cc0_scratch1 cc0_scratch2 cc0_scratch3 cc0_scratch4 cc0_scratch5) Q := by
  rw [cc0_body_eq_skeleton]; unfold cc0_body_skel
  rw [k0_part2_eq_skeleton, k0_part3_eq_skeleton, k0_part4_eq_skeleton, k0_part5_eq_skeleton, k0_part6_eq_skeleton, k0_part7_eq_skeleton, k0_part8_eq_skeleton]
  unfold k0_part2_skel k0_part3_skel k0_part4_skel k0_part5_skel k0_part6_skel k0_part7_skel k0_part8_skel
  simp only [semSignalWord, semWaitWord, Prog.lift, Prog.bind_op, Prog.bind_ret, Prog.pure_eq_ret, dite_bind, one_toInt, two_toInt, wp_deviceId, Prog.bind_assoc]
  unfold staged
  iintro ⟨#Hc, Hde, Hop, Hs0, Hs1, ⟨H0, H1, H2, H3, H4⟩, H5, Ho, HQ⟩
  iapply (load_all c (Memref.whole cc0_stg0_0) x x (Memref.readAt_unit_zero _ cc0_stg0_0 zero2 _ x)) $$ H0
  iintro H0
  iapply (load_all c (Memref.whole cc0_stg1_0) wq wq (Memref.readAt_unit_zero _ cc0_stg1_0 zero2 _ wq)) $$ H1
  iintro H1
  iapply (load_all c (Memref.whole cc0_stg2_0) kk kk (Memref.readAt_unit_zero _ cc0_stg2_0 zero3 _ kk)) $$ H2
  iintro H2
  iapply (load_all c (Memref.whole cc0_stg3_0) vv vv (Memref.readAt_unit_zero _ cc0_stg3_0 zero3 _ vv)) $$ H3
  iintro H3
  iapply (load_all c (Memref.whole cc0_stg4_0) wo wo (Memref.readAt_unit_zero _ cc0_stg4_0 zero2 _ wo)) $$ H4
  iintro H4
  iapply (load_all c (Memref.whole cc0_stg5_0) f f (Memref.readAt_unit_zero _ cc0_stg5_0 zero2 _ f)) $$ H5
  iintro H5
  iapply (store_all c (Memref.whole cc0_stg5_0) f (P c) ((Memref.write_access_unit_zero_univ _ cc0_stg5_0 zero2 _ f _).trans hP)) $$ [H5]
  · iexact H5
  iintro H5
  imod (enter P κ ι c) $$ [Hde Hop Hs0 Hs1] with ⟨Hb, Hr⟩
  · isplitr; · iexact Hc
    isplitl [Hde]; · iexact Hde
    isplitl [Hop]; · iexact Hop
    isplitl [Hs0] <;> iassumption
  unfold barIn
  icases Hb with ⟨⟨Hat, HrL, HrR, HdL, HdR, Hcr⟩, Hn0, Hn1, Hag, Hcc⟩
  iapply (signal_left P κ ι c _ (dev1_eq c)) $$ [Ho HdL HrL Hn0 Hn1 Hag]
  · isplitr; · iexact Hc
    isplitl [Ho]; · iexact Ho
    isplitl [HdL]; · iexact HdL
    isplitl [HrL]; · iexact HrL
    isplitl [Hn0]; · iexact Hn0
    isplitl [Hn1] <;> iassumption
  iintro Ho
  iapply (signal_right P κ ι c _ (dev2_eq c)) $$ [Ho HdR HrR Hcc]
  · isplitr; · iexact Hc
    isplitl [Ho]; · iexact Ho
    isplitl [HdR]; · iexact HdR
    isplitl [HrR] <;> iassumption
  iintro Ho
  iapply (wait_bar P κ ι c) $$ [Hcr Ho Hat]
  · isplitr; · iexact Hc
    isplitl [Hcr]; · iexact Hcr
    isplitl [Ho] <;> iassumption
  iintro ⟨Ho, Hat, #Ht⟩
  ihave Hrs := (rs_start P κ ι c) $$ [H5 Ho Hr]
  · isplitr; · iexact Ht
    isplitl [H5]; · iexact H5
    isplitl [Ho] <;> iassumption
  icases Hrs with ⟨Hrs, Hag⟩
  iapply (Scf.wp_for_bind frame (wpE (defs₀ (F := F)) 𝒱₀ (c : Thread nD τ) none) Set.univ k0_t1_loop.lb k0_t1_loop.ub k0_t1_loop.st k0_t1_ok () _
    (fun t _ => rsInv P κ ι c t) (fun t u => rs_trip P κ ι c _ _ _ _ _ _ _ _ _ _ _ _ _ _ _ _ _ _ _ _ _ _ t u)) $$ Hrs
  iintro %_ Hrs
  ihave Hrs := (Entails.of_eq (congrArg (rsInv P κ ι c) trips1)) $$ Hrs
  ihave Hag := (ag_start P κ ι c) $$ [Hrs Hag]
  · isplitl [Hrs] <;> iassumption
  icases Hag with ⟨Hag, Hl⟩
  iapply (Scf.wp_for_bind frame (wpE (defs₀ (F := F)) 𝒱₀ (c : Thread nD τ) none) Set.univ k0_t2_loop.lb k0_t2_loop.ub k0_t2_loop.st k0_t2_ok () _
    (fun t _ => agInv P κ ι c t) (fun t u => ag_trip P κ ι c _ _ _ _ _ _ _ _ _ _ _ _ t u)) $$ Hag
  iintro %_ Hag
  ihave Hag := (Entails.of_eq (congrArg (agInv P κ ι c) trips2)) $$ Hag
  rw [wp_ret]
  imod (leave P κ ι c) $$ [Hag Hl Hat] with Hleft
  · isplitl [Hag]; · iexact Hag
    isplitl [Hl] <;> iassumption
  imodintro
  iapply HQ
  isplitl [Hleft]; · iexact Hleft
  isplitl [H0]; · iexact H0
  isplitl [H1]; · iexact H1
  isplitl [H2]; · iexact H2
  isplitl [H3] <;> iassumption

end Cert.RingProof

end
-- ==== Proof.Region.lean ====
/-
  The kernel's region: what the staging buffers hold, the body's run as the pipeline asks for it, and what the region takes
  and leaves.
-/
module

public import proofs.«01_k».proof.Proof.Body
public import proofs.«01_k».proof.Proof.Gen.KernelIdeal.Regions
public import proofs.«01_k».proof.Proof.Gen.KernelIdeal.Points

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

/-! ## The receive buffer and its two slots -/

omit [FloatOps F] in
theorem slotM_set (p : Fin 2) : (slotM p).view.set = (slotR p).set :=
  (View.set_reshape _ _).trans (View.set_slice_whole cc0_scratch0 (slotR p))

theorem slot_mem (p : Fin 2) (i : S2x32x1024.Idx) : i ∈ (slotR p).set ↔ (i 0).val = p.val := by
  have h1 : (i 1).val < 32 := (i 1).isLt
  have h2 : (i 2).val < 1024 := (i 2).isLt
  rw [Rect.mem_set_unit]
  constructor
  · intro h; have := h 0; simp [S1x32x1024] at this; omega
  · intro h a
    fin_cases a <;> simp [S1x32x1024] <;> omega

theorem slots_disjoint : Disjoint (slotR 0).set (slotR 1).set := by
  rw [Finset.disjoint_left]
  intro i h0 h1
  rw [slot_mem] at h0 h1
  simp at h0 h1; omega
theorem slots_cover : (slotR 0).set ∪ (slotR 1).set = Finset.univ := by
  ext i
  have h0 : (i 0).val < 2 := (i 0).isLt
  simp only [Finset.mem_union, slot_mem, Finset.mem_univ, iff_true]
  simp; omega

/-- The receive buffer whole, at anything. -/
def bufAny (c : Dev nD) : sProp 𝕄 :=
  iprop(∃ f : Buf (Elt F) ((c : Thread nD τ).loc cc0_scratch0), ((c : Thread nD τ).loc cc0_scratch0) ↦{fullShare} f)

theorem buf_split (c : Dev nD) : bufAny (F := F) c ⊢ iprop(slotAny c 0 ∗ slotAny c 1) := by
  unfold bufAny slotAny Release.slot
  rw [slotM_set, slotM_set]
  iintro ⟨%f, H⟩
  ihave H' := ((Entails.of_eq (by rw [slots_cover])).trans
    (pointsTo_union (ℓ := (c : Thread nD τ).loc cc0_scratch0) (q := fullShare) (f := f) slots_disjoint).1 :
      (((c : Thread nD τ).loc cc0_scratch0) ↦{fullShare} f : sProp 𝕄) ⊢ _) $$ H
  icases H' with ⟨H0, H1⟩
  isplitl [H0]
  · iexists f; iexact H0
  iexists f; iexact H1

theorem buf_join (c : Dev nD) : iprop(slotAny (F := F) c 0 ∗ slotAny c 1) ⊢ bufAny c := by
  unfold bufAny slotAny Release.slot
  rw [slotM_set, slotM_set]
  iintro ⟨⟨%f, H0⟩, ⟨%g, H1⟩⟩
  iexists (slotR 1).set.piecewise g f
  iapply (((pointsTo_join (ℓ := (c : Thread nD τ).loc cc0_scratch0) (q := fullShare) (f := f) (g := g) slots_disjoint)).trans
    (Entails.of_eq (by rw [slots_cover])) :
      _ ⊢ (((c : Thread nD τ).loc cc0_scratch0) ↦{fullShare} ((slotR 1).set.piecewise g f) : sProp 𝕄))
  isplitl [H0] <;> iassumption

/-! ## What the region works on -/

variable (m : (ℓ : Loc nD τ sig) → Buf (Elt F) ℓ)

/-- Device `c`'s addend. -/
def P (c : Dev nD) : Vec F S1024x1024 .f32 :=
  layer (V1 m c main_v5) (V1 m c main_v10) (V1 m c main_v16) (V1 m c main_v17) (V1 m c main_v15)

/-- The rests: before the own semaphores are opened, -/
def Tk (c : Dev nD) : sProp 𝕄 :=
  iprop(∃ κ ι, ctx (P m) κ ι ∗ dealt c ∗ bigSep Finset.univ fun k : KO => openTok ER (((c : Thread nD τ), osem k) : GSem nD τ sig))
/-- and after. -/
def Xk (c : Dev nD) : sProp 𝕄 := iprop(∃ κ ι, ctx (P m) κ ι ∗ dealt c ∗ opened c)

theorem Tk_open (c : Dev nD) : iprop(Tk m c ∗ Pipeline.ownSems0 osem c ∗ levAts L lv) ⊢ (|={Set.univ}=> Xk m c : sProp 𝕄) := by
  unfold Tk Xk Pipeline.ownSems0
  iintro ⟨⟨%κ, %ι, #Hc, Hd, Ht⟩, Hs, -⟩
  ihave H := (Entails.of_eq (BI.bigSep_sep' Finset.univ (fun k : KO => (openTok ER (((c : Thread nD τ), osem k) : GSem nD τ sig) : sProp 𝕄))
    (fun k : KO => semVal (((c : Thread nD τ), osem k) : GSem nD τ sig) 0)).symm) $$ [Ht Hs]
  · isplitl [Ht]; · iexact Ht
    iexact Hs
  ihave H' := (bigSep_with_persistent (R := ctx (P m) κ ι)
      (S := Finset.univ) (Φ := fun k : KO => iprop((openTok ER (((c : Thread nD τ), osem k) : GSem nD τ sig) : sProp 𝕄)
        ∗ semVal (((c : Thread nD τ), osem k) : GSem nD τ sig) 0))
      (Ψ := fun k : KO => iprop(|={Set.univ}=> (atPos ER (((c : Thread nD τ), osem k) : GSem nD τ sig) 0 ∅ 0
        ∗ reached ER (((c : Thread nD τ), osem k) : GSem nD τ sig) 0))) (fun k _ => by
        iintro ⟨#Hc, Ht, Hs⟩
        iapply (cell_open ER (Rd (P m)) (g := (((c : Thread nD τ), osem k) : GSem nD τ sig)) (Set.mem_univ (κ ((c : Thread nD τ), osem k))))
        isplitr
        · iapply (ctx_own (P m) κ ι c k); iexact Hc
        isplitl [Ht] <;> iassumption)) $$ [H]
  · isplitr; · iexact Hc
    iexact H
  imod (bigSep_fupd _ _) $$ H' with H
  imodintro
  iexists κ, ι
  isplitr; · iexact Hc
  isplitl [Hd]; · iexact Hd
  unfold opened
  iexact H

/-- The region's proof data: the operands as they are, the result's buffer at the sum. -/
def dat0 (c : Dev nD) : Dat τ (Elt F) ℕ ℕ UU ℕ cfg0 c where
  A w := V1 m c (Proc.devRef .tc (Pipeline.arrRef spec0 w))
  after w _ := match w with
    | ⟨0, _⟩ => V1 m c main_v5
    | ⟨1, _⟩ => V1 m c main_v10
    | ⟨2, _⟩ => V1 m c main_v16
    | ⟨3, _⟩ => V1 m c main_v17
    | ⟨4, _⟩ => V1 m c main_v15
    | ⟨5, _⟩ => sumAll (P m)
  Φ t := if t.val = 0 then iprop(Xk m c ∗ bufAny c ∗ ∃ r, prngReg c r)
    else iprop(semVal (barC c) 0 ∗ ownZero c ∗ bufAny c ∗ ∃ r, prngReg c r)
  q _ := fullShare
  owed t := if t.val = 0 then O₀ c else 0

def pdats : (p : Fin 1) → (c : Dev nD) → Dat τ (Elt F) ℕ ℕ UU ℕ (cfgs p) c
  | ⟨0, _⟩ => dat0 m

theorem Φ_first (c : Dev nD) : (dat0 m c).Φ t0_0.castSucc = iprop(Xk m c ∗ bufAny c ∗ ∃ r, prngReg c r) := rfl
theorem Φ_last (c : Dev nD) : (dat0 m c).Φ t0_0.succ = iprop(semVal (barC c) 0 ∗ ownZero c ∗ bufAny c ∗ ∃ r, prngReg c r) := rfl
theorem owed_first (c : Dev nD) : (dat0 m c).owed t0_0.castSucc = O₀ c := rfl
theorem owed_last (c : Dev nD) : (dat0 m c).owed t0_0.succ = 0 := rfl

theorem ow_in (c : Dev nD) (t : Fin (cfg0.N + 1)) (O : Tal) (h : (dat0 m c).owed t = O) :
    (dat0 m c).owesAt 0 t ⊢ (ow c O : sProp 𝕄) := by
  unfold Dat.owesAt Pipeline.owesWithin Dat.bound ow; rw [h]
  iintro ⟨%W, -, H⟩; iexists W; iexact H
theorem ow_out (c : Dev nD) (t : Fin (cfg0.N + 1)) (O : Tal) (h : (dat0 m c).owed t = O) :
    (ow c O : sProp 𝕄) ⊢ (dat0 m c).owesAt 0 t := by
  unfold Dat.owesAt Pipeline.owesWithin Dat.bound ow; rw [h]
  iintro ⟨%W, H⟩; iexists W
  isplitr; · ipureintro; exact fun _ _ => Or.inl trivial
  iexact H

omit [FloatOps F] in
theorem owns_all (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

omit [FloatOps F] in
theorem read0 (X : (main_v5 : Ref sig .tc).ty.Contents (Elt F)) : ((cfg0.win 0).blk t0_0).view.read (Elt F) X = X := by
  funext j; rw [View.read_apply]
  exact congrArg X (funext fun a => Fin.ext ((Rect.emb_apply _ _ _).trans (by show 0 * _ + 1 * (j a).val = (j a).val; omega)))
omit [FloatOps F] in
theorem read1 (X : (main_v10 : Ref sig .tc).ty.Contents (Elt F)) : ((cfg0.win 1).blk t0_0).view.read (Elt F) X = X := by
  funext j; rw [View.read_apply]
  exact congrArg X (funext fun a => Fin.ext ((Rect.emb_apply _ _ _).trans (by show 0 * _ + 1 * (j a).val = (j a).val; omega)))
omit [FloatOps F] in
theorem read2 (X : (main_v16 : Ref sig .tc).ty.Contents (Elt F)) : ((cfg0.win 2).blk t0_0).view.read (Elt F) X = X := by
  funext j; rw [View.read_apply]
  exact congrArg X (funext fun a => Fin.ext ((Rect.emb_apply _ _ _).trans (by show 0 * _ + 1 * (j a).val = (j a).val; omega)))
omit [FloatOps F] in
theorem read3 (X : (main_v17 : Ref sig .tc).ty.Contents (Elt F)) : ((cfg0.win 3).blk t0_0).view.read (Elt F) X = X := by
  funext j; rw [View.read_apply]
  exact congrArg X (funext fun a => Fin.ext ((Rect.emb_apply _ _ _).trans (by show 0 * _ + 1 * (j a).val = (j a).val; omega)))
omit [FloatOps F] in
theorem read4 (X : (main_v15 : Ref sig .tc).ty.Contents (Elt F)) : ((cfg0.win 4).blk t0_0).view.read (Elt F) X = X := by
  funext j; rw [View.read_apply]
  exact congrArg X (funext fun a => Fin.ext ((Rect.emb_apply _ _ _).trans (by show 0 * _ + 1 * (j a).val = (j a).val; omega)))

/-- What the windows' buffers hold when the body starts. -/
theorem before0 (c : Dev nD) (d) : (dat0 m c).before 0 t0_0 d = V1 m c main_v5 := by
  refine Eq.trans ?_ (read0 (V1 m c main_v5))
  unfold Dat.before; rw [if_pos (by decide)]; rfl
theorem before1 (c : Dev nD) (d) : (dat0 m c).before 1 t0_0 d = V1 m c main_v10 := by
  refine Eq.trans ?_ (read1 (V1 m c main_v10))
  unfold Dat.before; rw [if_pos (by decide)]; rfl
theorem before2 (c : Dev nD) (d) : (dat0 m c).before 2 t0_0 d = V1 m c main_v16 := by
  refine Eq.trans ?_ (read2 (V1 m c main_v16))
  unfold Dat.before; rw [if_pos (by decide)]; rfl
theorem before3 (c : Dev nD) (d) : (dat0 m c).before 3 t0_0 d = V1 m c main_v17 := by
  refine Eq.trans ?_ (read3 (V1 m c main_v17))
  unfold Dat.before; rw [if_pos (by decide)]; rfl
theorem before4 (c : Dev nD) (d) : (dat0 m c).before 4 t0_0 d = V1 m c main_v15 := by
  refine Eq.trans ?_ (read4 (V1 m c main_v15))
  unfold Dat.before; rw [if_pos (by decide)]; rfl

/-- The result's array at the end. -/
theorem arrAt_out (c : Dev nD) : (dat0 m c).arrAt 5 cfg0.N = sumAll (P m) := by
  rw [show cfg0.N = 0 + 1 from N_0]
  unfold Dat.arrAt
  dsimp only
  rw [dif_pos (by rw [show cfg0.N = 1 from N_0]; decide), if_pos (flush0_5 _)]
  exact Memref.write_access_unit_zero_univ (Elt F) main_v18 (off := fun a => 0 * S1024x1024.size a) (funext fun a => Nat.zero_mul _) _ _ (sumAll (P m))

/-! ## The body, as the pipeline asks for it -/

theorem body_ok (c : Dev nD) : BodyObligation (dat0 m c) (defs₀ (F := F)) 𝒱₀ 0 Set.univ := fun t => by
  obtain rfl := fin_N0 t
  rw [bigSep_W0, bigSep_W0]
  simp only [owns_all]
  rw [Φ_first, Φ_last]
  iintro ⟨⟨HX, Hbuf, Hp⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before0] at hf0
  rw [before1] at hf1
  rw [before2] at hf2
  rw [before3] at hf3
  rw [before4] at hf4
  subst hf0 hf1 hf2 hf3 hf4
  unfold Xk
  icases HX with ⟨%κ, %ι, #Hc, Hd, Hop⟩
  ihave Hss := (buf_split c) $$ Hbuf
  icases Hss with ⟨Hs0, Hs1⟩
  ihave Ho := (ow_in m c _ (O₀ c) (owed_first m c)) $$ HO
  iapply (body_run (P m) κ ι c (hstage0_0 0) (hstage0_1 0) (hstage0_2 0) (hstage0_3 0) (hstage0_4 0) (hstage0_5 0) (Memref.isWhole_whole _)
    (V1 m c main_v5) (V1 m c main_v10) (V1 m c main_v16) (V1 m c main_v17) (V1 m c main_v15) f5 rfl)
  isplitr; · iexact Hc
  isplitl [Hd]; · iexact Hd
  isplitl [Hop]; · iexact Hop
  isplitl [Hs0]; · iexact Hs0
  isplitl [Hs1]; · iexact Hs1
  isplitl [H0 H1 H2 H3 H4]
  · unfold staged
    isplitl [H0]; · iexact H0
    isplitl [H1]; · iexact H1
    isplitl [H2]; · iexact H2
    isplitl [H3] <;> iassumption
  isplitl [H5]; · iexact H5
  isplitl [Ho]; · iexact Ho
  unfold left_over staged
  iintro ⟨⟨Hb, Hz, Hs0, Hs1, H5, Ho⟩, H0, H1, H2, H3, H4⟩
  ihave Hbuf := (buf_join c) $$ [Hs0 Hs1]
  · isplitl [Hs0] <;> iassumption
  isplitl [Hb Hz Hbuf Hp]
  · isplitl [Hb]; · iexact Hb
    isplitl [Hz]; · iexact Hz
    isplitl [Hbuf] <;> iassumption
  isplitl [Ho]
  · iapply (ow_out m c _ 0 (owed_last m c)); iexact Ho
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  iexists _; isplitr; swap; (· iexact H5); ipureintro; rfl

end Cert.RingProof
end
-- ==== Proof.Deal.lean ====
/-
  The launch deals every device its part: the tokens of the duties it pays (some of them on its neighbours' semaphores), the
  tokens of its writes into the right neighbour's slots, and the credit of what its neighbours owe to it.
-/
module

public import proofs.«01_k».proof.Proof.Region

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over the devices and over the steps -/

/-- One step round the ring. -/
def ring : Dev nD ≃ Dev nD := ⟨right, left, left_right, right_left⟩

theorem ring_right (Φ : Dev nD → sProp 𝕄) : bigSep Finset.univ Φ = bigSep Finset.univ fun c => Φ (right c) := bigSep_univ_equiv ring Φ
theorem ring_left (Φ : Dev nD → sProp 𝕄) : bigSep Finset.univ Φ = bigSep Finset.univ fun c => Φ (left c) := bigSep_univ_equiv ring.symm Φ

theorem steps (n : ℕ) (Φ : ℕ → sProp 𝕄) : bigSep (Finset.univ : Finset (Fin n)) (fun t => Φ t.val) = bigSep (Finset.Ico 0 n) Φ := by
  rw [← Finset.range_eq_Ico, show Finset.range n = Finset.univ.map (Fin.valEmbedding : Fin n ↪ ℕ) by
    ext x; simp only [Finset.mem_range, Finset.mem_map, Finset.mem_univ, true_and, Fin.valEmbedding_apply]
    exact ⟨fun h => ⟨⟨x, h⟩, rfl⟩, fun ⟨a, ha⟩ => ha ▸ a.isLt⟩, bigSep_map]
  rfl

/-! ## The duties' tokens -/

/-- The duties at one device's semaphores: the barrier's two, the sends and receives of the two passes, the credits. -/
abbrev TI : Type := Fin 2 ⊕ Fin 31 ⊕ Fin 31 ⊕ Fin 31 ⊕ Fin 31 ⊕ Fin 29
def duty : TI → SemLoc sig × ℕ × ℕ
  | .inl d => (.reg barS, 0, d.val)
  | .inr (.inl s) => (.dma (rsSend (cur s.val)), s.val / 2, 0)
  | .inr (.inr (.inl s)) => (.dma (rsRecv (cur s.val)), s.val / 2, 0)
  | .inr (.inr (.inr (.inl s))) => (.dma (agSend s.val), 0, 0)
  | .inr (.inr (.inr (.inr (.inl s)))) => (.dma (agRecv s.val), 0, 0)
  | .inr (.inr (.inr (.inr (.inr j)))) => (.reg crS, 0, j.val)

theorem duty_inj : Function.Injective duty := by decide +kernel

def dutyEmb : Dev nD × TI ↪ GSem nD τ sig × ℕ × ℕ :=
  ⟨fun x => (((x.1 : Thread nD τ), (duty x.2).1), (duty x.2).2.1, (duty x.2).2.2), fun _ _ h =>
    Prod.ext (congrArg (fun t : GSem nD τ sig × ℕ × ℕ => t.1.1.1) h)
      (duty_inj (Prod.ext (congrArg (fun t : GSem nD τ sig × ℕ × ℕ => t.1.2) h)
        (Prod.ext (congrArg (fun t : GSem nD τ sig × ℕ × ℕ => t.2.1) h) (congrArg (fun t : GSem nD τ sig × ℕ × ℕ => t.2.2) h))))⟩

/-- All tokens of the launch. -/
def tokens : Finset (GSem nD τ sig × ℕ × ℕ) := Finset.univ.map dutyEmb

/-- The duties a device pays. -/
def pays (c : Dev nD) : sProp 𝕄 :=
  iprop((dutyTok ER (barC (left c)) 0 1 ∗ dutyTok ER (barC (right c)) 0 0)
    ∗ (bigSep (Finset.Ico 0 31) fun s => dutyTok ER (rsSendC c (cur s)) (s / 2) 0)
    ∗ (bigSep (Finset.Ico 0 31) fun s => dutyTok ER (rsRecvC (right c) (cur s)) (s / 2) 0)
    ∗ (bigSep (Finset.Ico 0 31) fun s => dutyTok ER (agSendC c s) 0 0)
    ∗ (bigSep (Finset.Ico 0 31) fun s => dutyTok ER (agRecvC (right c) s) 0 0)
    ∗ (bigSep (Finset.Ico 0 29) fun j => dutyTok ER (crC (left c)) 0 j))

omit [FloatOps F] in
theorem split_duties (Φ : TI → sProp 𝕄) :
    bigSep Finset.univ Φ = iprop((Φ (.inl 0) ∗ Φ (.inl 1)) ∗ (bigSep Finset.univ fun t : Fin 31 => Φ (.inr (.inl t)))
      ∗ (bigSep Finset.univ fun t : Fin 31 => Φ (.inr (.inr (.inl t)))) ∗ (bigSep Finset.univ fun t : Fin 31 => Φ (.inr (.inr (.inr (.inl t)))))
      ∗ (bigSep Finset.univ fun t : Fin 31 => Φ (.inr (.inr (.inr (.inr (.inl t)))))) ∗ (bigSep Finset.univ fun t : Fin 29 => Φ (.inr (.inr (.inr (.inr (.inr t))))))) := by
  rw [bigSep_univ_sum, bigSep_univ_sum, bigSep_univ_sum, bigSep_univ_sum, bigSep_univ_sum, bigSep_fin_two]
  rfl

theorem tokens_split : (bigSep tokens fun x => (dutyTok ER x.1 x.2.1 x.2.2 : sProp 𝕄))
    = bigSep Finset.univ fun c : Dev nD => iprop((dutyTok ER (barC c) 0 0 ∗ dutyTok ER (barC c) 0 1)
      ∗ (bigSep (Finset.Ico 0 31) fun s => dutyTok ER (rsSendC c (cur s)) (s / 2) 0)
      ∗ (bigSep (Finset.Ico 0 31) fun s => dutyTok ER (rsRecvC c (cur s)) (s / 2) 0)
      ∗ (bigSep (Finset.Ico 0 31) fun s => dutyTok ER (agSendC c s) 0 0)
      ∗ (bigSep (Finset.Ico 0 31) fun s => dutyTok ER (agRecvC c s) 0 0)
      ∗ (bigSep (Finset.Ico 0 29) fun j => dutyTok ER (crC c) 0 j)) := by
  unfold tokens
  rw [bigSep_map, bigSep_univ_prod]
  refine bigSep_congr fun c _ => ?_
  rw [split_duties, ← steps, ← steps, ← steps, ← steps, ← steps]
  rfl

theorem tokens_deal : (bigSep tokens fun x => (dutyTok ER x.1 x.2.1 x.2.2 : sProp 𝕄)) ⊢ bigSep Finset.univ fun c : Dev nD => pays (F := F) c := by
  rw [tokens_split]
  unfold pays
  rw [bigSep_sep', bigSep_sep', bigSep_sep', bigSep_sep', bigSep_sep', bigSep_sep', bigSep_sep', bigSep_sep', bigSep_sep', bigSep_sep', bigSep_sep', bigSep_sep']
  iintro ⟨⟨Hb0, Hb1⟩, H1, H2, H3, H4, H5⟩
  isplitl [Hb0 Hb1]
  · isplitl [Hb1]
    · iapply (Entails.of_eq (ring_left fun c => (dutyTok ER (barC c) 0 1 : sProp 𝕄))); iexact Hb1
    iapply (Entails.of_eq (ring_right fun c => (dutyTok ER (barC c) 0 0 : sProp 𝕄))); iexact Hb0
  isplitl [H1]; · iexact H1
  isplitl [H2]
  · iapply (Entails.of_eq (ring_right fun c => (bigSep (Finset.Ico 0 31) fun s => dutyTok ER (rsRecvC c (cur s)) (s / 2) 0 : sProp 𝕄))); iexact H2
  isplitl [H3]; · iexact H3
  isplitl [H4]
  · iapply (Entails.of_eq (ring_right fun c => (bigSep (Finset.Ico 0 31) fun s => dutyTok ER (agRecvC c s) 0 0 : sProp 𝕄))); iexact H4
  iapply (Entails.of_eq (ring_left fun c => (bigSep (Finset.Ico 0 29) fun j => dutyTok ER (crC c) 0 j : sProp 𝕄))); iexact H5

/-! ## The slots' tokens -/

/-- The write of device `c` at step `s`. -/
def wr (x : Dev nD × Fin 31) : Key × ℕ := ((right x.1, cur x.2.val), x.2.val / 2)

theorem wr_inj : Function.Injective wr := by
  rintro ⟨c, s⟩ ⟨c', s'⟩ h
  have h1 : right c = right c' := congrArg (fun k : Key × ℕ => k.1.1) h
  have h2 : (cur s.val).val = (cur s'.val).val := congrArg (fun k : Key × ℕ => k.1.2.val) h
  have h3 : s.val / 2 = s'.val / 2 := congrArg (fun k : Key × ℕ => k.2) h
  refine Prod.ext (ring.injective h1) (Fin.ext ?_)
  simp only [cur] at h2
  show s.val = s'.val
  omega

theorem writes_deal : (bigSep ((Finset.univ : Finset Key) ×ˢ Finset.range 16) fun x => (Release.writeTok ES x.1 (x.2 + 1) : sProp 𝕄))
    ⊢ bigSep Finset.univ fun c : Dev nD => bigSep (Finset.Ico 0 31) fun s => Release.writeTok ES (right c, cur s) (s / 2 + 1) := by
  have hs : Finset.univ.map ⟨wr, wr_inj⟩ ⊆ (Finset.univ : Finset Key) ×ˢ Finset.range 16 := fun x hx => by
    obtain ⟨y, -, rfl⟩ := Finset.mem_map.mp hx
    refine Finset.mem_product.mpr ⟨Finset.mem_univ _, Finset.mem_range.mpr ?_⟩
    have := y.2.isLt
    show y.2.val / 2 < 16
    omega
  refine BIBase.Entails.trans (Q := bigSep (Finset.univ.map ⟨wr, wr_inj⟩) fun x => (Release.writeTok ES x.1 (x.2 + 1) : sProp 𝕄))
    (BI.bigSep_subset hs) (Entails.of_eq ?_)
  rw [bigSep_map, bigSep_univ_prod]
  refine bigSep_congr fun c _ => ?_
  rw [← steps]
  rfl

/-! ## The credit -/

/-- What the neighbours owe to device `c`. -/
def gets (c : Dev nD) : sProp 𝕄 :=
  iprop((bigSep (Finset.Ico 0 31) fun s => cred (tallyAt (rsRecvC c (cur s)) (2 * s + 2) N))
    ∗ (bigSep (Finset.Ico 0 29) fun j => cred (tallyAt (crC c) (2 * j + 3) 1))
    ∗ (bigSep (Finset.Ico 0 31) fun s => cred (tallyAt (agRecvC c s) (2 * (31 + s) + 2) N))
    ∗ cred (tallyAt (barC c) 1 2))

theorem credit (c : Dev nD) : (Pipeline.launchCred O₀ c : sProp 𝕄) ⊢ gets c := by
  rw [show O₀ = fun d => ((∑ s ∈ Finset.Ico 0 31, owRS d s) + (∑ j ∈ Finset.Ico 0 29, owCr d j) + (∑ t ∈ Finset.Ico 0 31, owAG d t)) + owBR d + owBL d from rfl,
    Pipeline.launchCred_add, Pipeline.launchCred_add, Pipeline.launchCred_add, Pipeline.launchCred_add,
    Pipeline.launchCred_sum (Finset.Ico 0 31) (fun s d => owRS d s), Pipeline.launchCred_sum (Finset.Ico 0 29) (fun j d => owCr d j),
    Pipeline.launchCred_sum (Finset.Ico 0 31) (fun t d => owAG d t)]
  unfold gets
  iintro ⟨⟨⟨⟨H1, H2⟩, H3⟩, H4⟩, H5⟩
  isplitl [H1]
  · iapply (onEach (s := Finset.Ico 0 31) fun s _ =>
      Pipeline.launchCred_tallyAt (.dma (rsRecv (cur s))) right left right_left left_right (2 * s + 2) N c); iexact H1
  isplitl [H2]
  · iapply (onEach (s := Finset.Ico 0 29) fun j _ =>
      Pipeline.launchCred_tallyAt (.reg crS) left right left_right right_left (2 * j + 3) 1 c); iexact H2
  isplitl [H3]
  · iapply (onEach (s := Finset.Ico 0 31) fun s _ =>
      Pipeline.launchCred_tallyAt (.dma (agRecv s)) right left right_left left_right (2 * (31 + s) + 2) N c); iexact H3
  iapply ((cred_add (tallyAt (barC c) 1 1) (tallyAt (barC c) 1 1)).2.trans (Entails.of_eq (by rw [tallyAt_add])))
  isplitl [H4]
  · iapply (Pipeline.launchCred_tallyAt (.reg barS) right left right_left left_right 1 1 c); iexact H4
  iapply (Pipeline.launchCred_tallyAt (.reg barS) left right left_right right_left 1 1 c); iexact H5

/-! ## All together -/

theorem dealt_make (c : Dev nD) :
    iprop(((reached ER (barC (left c)) 0 ∗ reached ER (barC (right c)) 0) ∗ atPos ER (barC c) 0 ∅ 0 ∗ pays (F := F) c
        ∗ (Release.readerAt ES (c, 0) 0 ∗ Release.readerAt ES (c, 1) 0)
        ∗ (bigSep (Finset.Ico 0 31) fun s => Release.writeTok ES (right c, cur s) (s / 2 + 1)) ∗ gets c)) ⊢ dealt c := by
  unfold pays gets dealt
  iintro ⟨⟨R1, R2⟩, Hat, ⟨⟨D1, D2⟩, H1, H2, H3, H4, H5⟩, Hr, Hw, C1, C2, C3, C4⟩
  isplitl [R1 R2 Hat D1 D2 C4]
  · isplitl [Hat]; · iexact Hat
    isplitl [R1]; · iexact R1
    isplitl [R2]; · iexact R2
    isplitl [D1]; · iexact D1
    isplitl [D2] <;> iassumption
  isplitl [Hr]; · iexact Hr
  isplitl [H1 H2 Hw C1]
  · unfold rsTok
    rw [sepBoth, sepBoth, sepBoth]
    isplitl [H1]; · iexact H1
    isplitl [H2]; · iexact H2
    isplitl [Hw] <;> iassumption
  isplitl [H5]; · iexact H5
  isplitl [C2]; · iexact C2
  unfold agDeal
  rw [sepBoth, sepBoth]
  isplitl [H3]; · iexact H3
  isplitl [H4] <;> iassumption

end Cert.RingProof
end
-- ==== Proof.Launch.lean ====
/-
  The region's record, and the launch: from what the machine gives at the start, what every device starts from.
-/
module

public import proofs.«01_k».proof.Proof.Deal
public import Idealize.ShloMosaic.Lib.Pipeline.RegionTalk

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig ℕ (Elt F) ℕ UU ℕ

variable (m : (ℓ : Loc nD τ sig) → Buf (Elt F) ℓ)

/-! ## The region's record -/

/-- What the region leaves in the one buffer it changes. -/
def outs : Outs (F := F) := fun _ r c => Function.update (V1 m c) main_v18 (sumAll (P m)) (Proc.devRef .tc r)

theorem V2_out (c : Dev nD) : V2 m (outs m) c main_v18 = sumAll (P m) := by
  show Function.update (V1 m c) main_v18 (outs m 2 main_v18 c) main_v18 = _
  rw [Function.update_self]
  show Function.update (V1 m c) main_v18 (sumAll (P m)) main_v18 = _
  rw [Function.update_self]

/-- The region's arrays. -/
abbrev arrs : Finset (DevRef τ sig) := Pipeline.arrRefs (τ := τ) spec0

theorem arrs_sub : arrs ⊆ Pipeline.ucRefs τ sig := by decide +kernel
theorem out_mem : Proc.devRef .tc main_v18 ∈ arrs := by decide +kernel

theorem rest_same (c : Dev nD) : ∀ b ∈ (Pipeline.ucRefs τ sig \ arrs) \ ∅, V2 m (outs m) c b = V1 m c b := fun b hb => by
  refine Function.update_of_ne (fun h => ?_) _ _
  subst h
  exact (Finset.mem_sdiff.mp (Finset.mem_sdiff.mp hb).1).2 out_mem

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Whatever is owed at launch has a positive level. -/
theorem O₀_pos (c : Dev nD) {g : GSem nD τ sig} {i : ℕ} (h : 0 < O₀ c g i) : g.1.2 = .tc ∧ i < 200 ∧ 0 < i := by
  have h' : 0 < owing c 0 0 0 g i ∨ 0 < owBR c g i ∨ 0 < owBL c g i := by
    unfold O₀ at h; simp only [Pi.add_apply, Finsupp.add_apply] at h; omega
  rcases h' with h | h | h
  · obtain ⟨h1, h2, h3⟩ := owing_pos c h
    exact ⟨h1, h2, by omega⟩
  · obtain ⟨rfl, rfl⟩ := Pipeline.tallyAt_pos h
    exact ⟨rfl, by omega, by omega⟩
  · obtain ⟨rfl, rfl⟩ := Pipeline.tallyAt_pos h
    exact ⟨rfl, by omega, by omega⟩

theorem cut (c : Dev nD) (t : Fin (cfg0.N + 1)) (g : GSem nD τ sig) (i : ℕ) (h : 0 < (dat0 m c).owed t g i) : i ∈ L g ∧ 0 < lv g i := by
  have e : (dat0 m c).owed t = if t.val = 0 then O₀ c else 0 := rfl
  rw [e] at h
  split at h
  · obtain ⟨h1, h2, h3⟩ := O₀_pos c h
    exact ⟨by unfold L; rw [if_pos h1]; exact Finset.mem_range.mpr h2, h3⟩
  · exact absurd h (Nat.lt_irrefl 0)

theorem owedN (c : Dev nD) : (dat0 m c).owed (Fin.last cfg0.N) = 0 := by
  show (if (Fin.last cfg0.N).val = 0 then O₀ c else 0) = 0
  rw [Fin.val_last, if_neg (by rw [show cfg0.N = 1 from N_0]; decide)]

theorem ΦN (c : Dev nD) : (dat0 m c).Φ (Fin.last cfg0.N) = iprop(semVal (barC c) 0 ∗ ownZero c ∗ bufAny c ∗ ∃ r, prngReg c r) := by
  show (if (Fin.last cfg0.N).val = 0 then iprop(Xk m c ∗ bufAny c ∗ ∃ r, prngReg c r) else iprop(semVal (barC c) 0 ∗ ownZero c ∗ bufAny c ∗ ∃ r, prngReg c r)) = _
  rw [Fin.val_last, if_neg (by rw [show cfg0.N = 1 from N_0]; decide)]

theorem arrN : ∀ (c : Dev nD) (w : Fin 6), (dat0 m c).arrAt w cfg0.N = V2 m (outs m) c (Proc.devRef .tc (Pipeline.arrRef spec0 w))
  | c, ⟨0, _⟩ => ((dat0 m c).arrAt_in (0 : Fin 6) rfl _).trans (V2_of m (outs m) c main_v5 (by decide)).symm
  | c, ⟨1, _⟩ => ((dat0 m c).arrAt_in (1 : Fin 6) rfl _).trans (V2_of m (outs m) c main_v10 (by decide)).symm
  | c, ⟨2, _⟩ => ((dat0 m c).arrAt_in (2 : Fin 6) rfl _).trans (V2_of m (outs m) c main_v16 (by decide)).symm
  | c, ⟨3, _⟩ => ((dat0 m c).arrAt_in (3 : Fin 6) rfl _).trans (V2_of m (outs m) c main_v17 (by decide)).symm
  | c, ⟨4, _⟩ => ((dat0 m c).arrAt_in (4 : Fin 6) rfl _).trans (V2_of m (outs m) c main_v15 (by decide)).symm
  | c, ⟨5, _⟩ => (arrAt_out m c).trans (V2_out m c).symm

theorem region_in (c : Dev nD) :
    iprop(Pipeline.scopedRest spec0 c ∗ (∃ r, prngReg c r) ∗ StableHlo.held (c.tc : Thread nD τ) ∅ (V1 m c) ∗ Xk m c) ⊢ (dat0 m c).Φ 0 := by
  rw [scopedRest0_eq, show (dat0 m c).Φ 0 = iprop(Xk m c ∗ bufAny c ∗ ∃ r, prngReg c r) from rfl]
  unfold bufAny
  iintro ⟨Hs, Hp, -, HX⟩
  isplitl [HX]; · iexact HX
  isplitl [Hs]; · iexact Hs
  iexact Hp

theorem region_out (c : Dev nD) :
    (dat0 m c).Φ (Fin.last cfg0.N) ⊢ iprop(Pipeline.scopedRest spec0 c ∗ (∃ r, prngReg c r) ∗ StableHlo.held (c.tc : Thread nD τ) ∅ (V2 m (outs m) c)
      ∗ Pipeline.ownSems0 osem c ∗ semVal (barC c) 0) := by
  rw [scopedRest0_eq, ΦN]
  unfold bufAny ownZero Pipeline.ownSems0 StableHlo.held
  rw [bigSep_empty]
  iintro ⟨Hb, Hz, Hs, Hp⟩
  isplitl [Hs]; · iexact Hs
  isplitl [Hp]; · iexact Hp
  isplitr; · iempintro
  isplitl [Hz]; · iexact Hz
  iexact Hb

theorem osem_ok : Pipeline.OwnSemFacts spec0 osem := by decide +kernel

set_option backward.isDefEq.respectTransparency.types false in
/-- The region, as the launch theorem takes it. -/
def reg : RegionSeg (pcfgs (F := F)) adm (pdats m) 0 defs₀ 𝒱₀ L lv 0 :=
  Pipeline.RegionSeg.ofTalk (pcfgs (F := F)) adm (pdats m) 0 defs₀ 𝒱₀ L lv 0 osem osem_ok
    ∅ (Pipeline.ucRefs τ sig \ arrs) (Finset.empty_subset _) kit rfl (fun c => (body_ok m c).loose)
    (fun _ => 0) O₀ (fun c => (zero_add (O₀ c)).symm) (owedN m) (fun _ => rfl) (fun c => (pdats m 0 c).share_full fun _ => rfl)
    (V1 m) (V2 m (outs m)) (rest_same m)
    (Tk m) (fun c => semVal (barC c) 0) (Xk m) (fun c => semVal (barC c) 0) (Tk_open m) (region_in m) (region_out m)
    (fun c => by iintro H; imodintro; iexact H)
    (fun _ => 0)
    ⟨fun c w s => mem_L (by decide), fun c w s => Nat.le_refl _, fun c t g i h => cut m c t g i h⟩
    (fun _ => iprop(emp))
    (fun c w => rfl) (arrN m)

/-! ## Between the items -/

/-- What rides along: before the region, and after. -/
def E : Fin 2 → Dev nD → sProp 𝕄
  | 0, c => iprop((∃ r, prngReg c r) ∗ Tk m c ∗ ow c (O₀ c))
  | 1, c => iprop((∃ r, prngReg c r) ∗ semVal (barC c) 0 ∗ ow c 0)

theorem held_split (c : Dev nD) (W : Valuation τ sig (Elt F)) :
    (StableHlo.held (c.tc : Thread nD τ) (Pipeline.ucRefs τ sig) W : sProp 𝕄)
      = iprop(StableHlo.held (c.tc : Thread nD τ) (arrs) W ∗ StableHlo.held (c.tc : Thread nD τ) (Pipeline.ucRefs τ sig \ arrs) W) :=
  StableHlo.held_sub_split (c.tc : Thread nD τ) arrs_sub W

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (arrs) (V1 m c) ∗ (∃ r, prngReg c r)
    ∗ (StableHlo.held (c.tc : Thread nD τ) (Pipeline.ucRefs τ sig \ arrs) (V1 m c) ∗ emp) ∗ Tk m c ∗ ∃ Wd, owes (c : Thread nD τ) (0 + O₀ c) Wd)
  rw [held_split, zero_add, show E m 0 c = iprop((∃ r, prngReg c r) ∗ Tk m c ∗ ow c (O₀ c)) from rfl]
  unfold ow
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (Pipeline.ucRefs τ sig) (V2 m (outs m) c) ∗ E m 1 c) := by
  show iprop(StableHlo.held (c.tc : Thread nD τ) (arrs) (V2 m (outs m) c) ∗ (∃ r, prngReg c r)
    ∗ (StableHlo.held (c.tc : Thread nD τ) (Pipeline.ucRefs τ sig \ arrs) (V2 m (outs m) c) ∗ emp) ∗ semVal (barC c) 0
    ∗ ∃ Wd, owes (c : Thread nD τ) (0 : Tal) Wd) ⊢ _
  rw [held_split, show E m 1 c = iprop((∃ r, prngReg c r) ∗ semVal (barC c) 0 ∗ ow c 0) from rfl]
  unfold ow
  iintro ⟨Ha, Hp, ⟨Hr, -⟩, Hb, HO⟩
  isplitl [Ha Hr]; · isplitl [Ha] <;> iassumption
  isplitl [Hp]; · iexact Hp
  isplitl [Hb]; · iexact Hb
  iexact HO

/-! ## The launch -/

/-- The launch element of the protocol's two components. -/
def elt : URounds (GSem nD τ sig) ℕ × Release.USlots Key := (launchOf barCells ownCells tokens, Release.initSlots Finset.univ 16)

def u₀ : UU := (initOf (Pipeline.cells cfgs cellOf_inj) (Pipeline.launchToks cfgs cellOf_inj), elt)

/-- All of it on the first device, until everything is dealt. -/
def G (c : Dev nD) : sProp 𝕄 := if c = 0 then BI.own (embR elt) else iprop(emp)

theorem G_all : bigSep Finset.univ (G (F := F)) = BI.own (embR elt) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

omit [FloatOps F] in
theorem bar_inj : Function.Injective (fun c : Dev nD => barC c) := fun _ _ h => congrArg (fun g : GSem nD τ sig => g.1.1) h
theorem osem_inj : Function.Injective osem := by decide +kernel
theorem osem_bar : ∀ k : KO, osem k ≠ .reg barS := by decide +kernel
theorem own_inj : Function.Injective (fun x : Dev nD × KO => (((x.1 : Thread nD τ), osem x.2) : GSem nD τ sig)) := fun _ _ h =>
  Prod.ext (congrArg (fun g : GSem nD τ sig => g.1.1) h) (osem_inj (congrArg Prod.snd h))
theorem cells_disjoint : Disjoint barCells ownCells := by
  rw [Finset.disjoint_left]
  intro g h1 h2
  obtain ⟨c, -, rfl⟩ := Finset.mem_image.mp h1
  obtain ⟨x, -, h⟩ := Finset.mem_image.mp h2
  exact osem_bar x.2 (congrArg Prod.snd h)

theorem onBars (Φ : GSem nD τ sig → sProp 𝕄) : bigSep barCells Φ = bigSep Finset.univ fun c : Dev nD => Φ (barC c) :=
  Idealize.SL.BI.bigSep_image_of_injOn bar_inj.injOn Φ
theorem onOwn (Φ : GSem nD τ sig → sProp 𝕄) :
    bigSep ownCells Φ = bigSep Finset.univ fun c : Dev nD => bigSep Finset.univ fun k : KO => Φ ((c : Thread nD τ), osem k) :=
  (Idealize.SL.BI.bigSep_image_of_injOn own_inj.injOn Φ).trans (bigSep_univ_prod _)

theorem own_elt : (BI.own (embR elt) : sProp 𝕄) ⊢ iprop(BI.own (ER (launchOf barCells ownCells tokens)) ∗ BI.own (ES (Release.initSlots Finset.univ 16))) := by
  unfold ER ES elt
  exact own_pair_emb (embR (nD := nD) (τ := τ) (sig := sig) (Ix := ℕ) (Val := Elt F) (Name := ℕ) (A := UR sig nD τ) (B := URounds (GSem nD τ sig) ℕ × Release.USlots Key) (Lvl := ℕ)) _ _

/-- The reader's places at a device's two receive slots. -/
def reads (c : Dev nD) : sProp 𝕄 := iprop(Release.readerAt ES (c, 0) 0 ∗ Release.readerAt ES (c, 1) 0)

/-- What a device has at launch but for the protocol's tokens. -/
def plain (ρ : Dev nD → PrngReg) (c : Dev nD) : sProp 𝕄 :=
  iprop(StableHlo.held (c : Thread nD τ) (Pipeline.ucRefs τ sig) (V0 m c) ∗ owes (c : Thread nD τ) (O₀ c) ∅ ∗ prngReg c (ρ c))

/-- What the launch gives one device of the protocol. -/
def part0 (c : Dev nD) : sProp 𝕄 :=
  iprop(gets c ∗ atPos ER (barC c) 0 ∅ 0 ∗ pays (F := F) c ∗ reads c
    ∗ (bigSep (Finset.Ico 0 31) fun s => Release.writeTok ES (right c, cur s) (s / 2 + 1))
    ∗ bigSep Finset.univ fun k : KO => openTok ER (((c : Thread nD τ), osem k) : GSem nD τ sig))

theorem start (ρ : Dev nD → PrngReg) (κ : GSem nD τ sig → ℕ) (ι : Key → ℕ) (c : Dev nD) :
    iprop((ctx (P m) κ ι ∗ bigSep barCells fun g => reached ER g 0) ∗ part0 c ∗ plain m ρ c)
      ⊢ iprop(StableHlo.held (c : Thread nD τ) (Pipeline.ucRefs τ sig) (V0 m c) ∗ E m 0 c) := by
  rw [show E m 0 c = iprop((∃ r, prngReg c r) ∗ Tk m c ∗ ow c (O₀ c)) from rfl]
  unfold part0 plain Tk ow reads
  iintro ⟨⟨#Hc, #Hr⟩, ⟨H1, H2, H3, H4, H5, H6⟩, Hh, HO, Hp⟩
  isplitl [Hh]; · iexact Hh
  isplitl [Hp]; · iexists (ρ c); iexact Hp
  isplitr [HO]
  · iexists κ, ι
    isplitr; · iexact Hc
    isplitr [H6]
    · iapply (dealt_make c)
      isplitr
      · isplitr
        · iapply (pick (Φ := fun g => (reached ER g 0 : sProp 𝕄)) (Finset.mem_image_of_mem _ (Finset.mem_univ (left c)) : barC (left c) ∈ barCells)); iexact Hr
        iapply (pick (Φ := fun g => (reached ER g 0 : sProp 𝕄)) (Finset.mem_image_of_mem _ (Finset.mem_univ (right c)) : barC (right c) ∈ barCells)); iexact Hr
      isplitl [H2]; · iexact H2
      isplitl [H3]; · iexact H3
      isplitl [H4]; · iexact H4
      isplitl [H5] <;> iassumption
    iexact H6
  iexists ∅; iexact HO

theorem unscoped_eq : ∀ sm : SemLoc sig, sm.isScoped .tc = false → sm = .reg barS := by decide +kernel
theorem sems_at_launch (c : Dev nD) : (unscopedSems0 c : sProp 𝕄) = semVal (barC c) 0 := by
  unfold unscopedSems0
  rw [show (Finset.univ.filter fun sm : SemLoc sig => ¬ sm.isScoped .tc = true) = {SemLoc.reg barS} from by decide +kernel, bigSep_singleton]

theorem readers : (bigSep Finset.univ fun k : Key => (Release.readerAt ES k 0 : sProp 𝕄)) = bigSep Finset.univ fun c : Dev nD => reads c := by
  unfold reads
  rw [bigSep_univ_prod]
  exact bigSep_congr fun c _ => bigSep_fin_two _

/-- What the launch gives one device, before the protocol is set up. -/
def raw (ρ : Dev nD → PrngReg) (c : Dev nD) : sProp 𝕄 :=
  iprop(unscopedBufs c (fun b => m ((c.tc : Thread nD τ).loc b)) ∗ unscopedSems0 c
    ∗ owes (c.tc : Thread nD τ) (O₀ c) ∅ ∗ Pipeline.launchCred O₀ c ∗ prngReg c (ρ c) ∗ G c)

theorem raw_one (ρ : Dev nD → PrngReg) (c : Dev nD) : raw m ρ c ⊢ iprop(plain m ρ c ∗ gets c ∗ semVal (barC c) 0 ∗ G c) := by
  unfold raw plain
  rw [sems_at_launch, ← Pipeline.unscopedBufs_held (Ix := ℕ) (Name := ℕ) (U := UU) (Lvl := ℕ) c (V0 m c)]
  iintro ⟨Hh, Hs, HO, Hc, Hp, HG⟩
  ihave Hg := (credit c) $$ Hc
  isplitl [Hh HO Hp]
  · isplitl [Hh]; · iexact Hh
    isplitl [HO] <;> iassumption
  isplitl [Hg]; · iexact Hg
  isplitl [Hs] <;> iassumption

theorem raw_all (ρ : Dev nD → PrngReg) : bigSep Finset.univ (raw m ρ)
    ⊢ iprop((bigSep Finset.univ fun c => plain m ρ c) ∗ (bigSep Finset.univ fun c => gets c) ∗ (bigSep barCells fun g => semVal g 0)
      ∗ BI.own (ER (launchOf barCells ownCells tokens)) ∗ BI.own (ES (Release.initSlots Finset.univ 16))) := by
  refine (onEach fun c _ => raw_one m ρ c).trans ?_
  rw [sepBoth, sepBoth, sepBoth, G_all, onBars]
  iintro ⟨H1, H2, H3, H4⟩
  isplitl [H1]; · iexact H1
  isplitl [H2]; · iexact H2
  isplitl [H3]; · iexact H3
  iapply own_elt; iexact H4

/-- The protocol's tokens, dealt to the devices. -/
theorem deal : iprop((bigSep Finset.univ fun c => gets (F := F) c) ∗ (bigSep barCells fun g => atPos ER g 0 ∅ 0) ∗ bigSep tokens (fun x => dutyTok ER x.1 x.2.1 x.2.2)
      ∗ (bigSep Finset.univ fun k : Key => Release.readerAt ES k 0)
      ∗ (bigSep (Finset.univ ×ˢ Finset.range 16) fun x : Key × ℕ => Release.writeTok ES x.1 (x.2 + 1)) ∗ bigSep ownCells (fun g => openTok ER g))
    ⊢ (bigSep Finset.univ (part0 (F := F)) : sProp 𝕄) := by
  unfold part0
  rw [sepBoth, sepBoth, sepBoth, sepBoth, sepBoth, onBars, onOwn, readers]
  iintro ⟨H1, H2, H3, H4, H5, H6⟩
  isplitl [H1]; · iexact H1
  isplitl [H2]; · iexact H2
  isplitl [H3]; · iapply (tokens_deal (F := F)); iexact H3
  isplitl [H4]; · iexact H4
  isplitl [H5]; · iapply (writes_deal (F := F)); iexact H5
  iexact H6

/-- Every device's part together with what all share makes what each starts from. -/
theorem starts (ρ : Dev nD → PrngReg) (κ : GSem nD τ sig → ℕ) (ι : Key → ℕ) :
    iprop((ctx (P m) κ ι ∗ bigSep barCells fun g => reached ER g 0) ∗ (bigSep Finset.univ (part0 (F := F))) ∗ bigSep Finset.univ (plain m ρ))
      ⊢ bigSep Finset.univ fun c : Dev nD => iprop(StableHlo.held (c : Thread nD τ) (Pipeline.ucRefs τ sig) (V0 m c) ∗ E m 0 c) := by
  rw [← sepBoth]
  exact bigSep_with_persistent (S := Finset.univ) (R := iprop(ctx (P m) κ ι ∗ bigSep barCells fun g => reached ER g 0))
    (Φ := fun c => iprop(part0 c ∗ plain m ρ c)) (Ψ := fun c => iprop(StableHlo.held (c : Thread nD τ) (Pipeline.ucRefs τ sig) (V0 m c) ∗ E m 0 c))
    fun c _ => start m ρ κ ι c

/-- The schedule's cells, set up: the barrier semaphores live, the kernel's own dormant. -/
theorem fund (Q : Dev nD → Vec F S1024x1024 .f32) :
    iprop((bigSep barCells fun g => semVal g 0) ∗ BI.own (ER (launchOf barCells ownCells tokens)))
      ⊢ (|={Set.univ}=> ∃ κ : GSem nD τ sig → ℕ, (bigSep (barCells ∪ ownCells) fun g => cellInv ER (Rd Q) (κ g) g)
          ∗ (bigSep barCells fun g => reached ER g 0) ∗ (bigSep barCells fun g => atPos ER g 0 ∅ 0) ∗ (bigSep ownCells fun g => openTok ER g)
          ∗ bigSep tokens (fun x => dutyTok ER x.1 x.2.1 x.2.2) : sProp 𝕄) := by
  iintro H
  imod (fund_launch ER (Rd Q) cells_disjoint (fun g _ h => h) tokens) $$ H with ⟨%κ, -, H⟩
  imodintro
  iexists κ
  iexact H

/-- The receive slots, set up. -/
theorem slots : (BI.own (ES (Release.initSlots Finset.univ 16)) : sProp 𝕄)
      ⊢ (|={Set.univ}=> ∃ ι : Key → ℕ, (bigSep Finset.univ fun k : Key => Release.slotInv ES (ι k) k (slotAny (F := F) k.1 k.2))
          ∗ (bigSep Finset.univ fun k : Key => Release.readerAt ES k 0)
          ∗ (bigSep (Finset.univ ×ˢ Finset.range 16) fun x : Key × ℕ => Release.writeTok ES x.1 (x.2 + 1)) : sProp 𝕄) := by
  iintro H
  imod (Release.slots_init ES Finset.univ 16 (fun k : Key => slotAny (F := F) k.1 k.2)) $$ H with ⟨%ι, -, H⟩
  imodintro
  iexists ι
  iexact H

theorem ctx_intro (Q : Dev nD → Vec F S1024x1024 .f32) (κ : GSem nD τ sig → ℕ) (ι : Key → ℕ) :
    iprop((bigSep (barCells ∪ ownCells) fun g => cellInv ER (Rd Q) (κ g) g)
      ∗ (bigSep Finset.univ fun k : Key => Release.slotInv ES (ι k) k (slotAny (F := F) k.1 k.2)) ∗ levAts L lv) ⊢ (ctx Q κ ι : sProp 𝕄) := by
  unfold ctx
  exact .rfl

theorem init (ρ : Dev nD → PrngReg) : iprop(bigSep Finset.univ (raw m ρ) ∗ levAts L lv)
      ⊢ (|={Set.univ}=> bigSep Finset.univ fun c : Dev nD => iprop(StableHlo.held (c : Thread nD τ) (Pipeline.ucRefs τ sig) (V0 m c) ∗ E m 0 c) : sProp 𝕄) := by
  iintro ⟨H, HL⟩
  ihave H' := (raw_all m ρ) $$ H
  icases H' with ⟨Hpl, Hg, Hs, HR, HS⟩
  imod (fund (P m)) $$ [Hs HR] with ⟨%κ, Hinv, Hr, Hat, Hopen, Htok⟩
  · isplitl [Hs] <;> iassumption
  imod slots $$ HS with ⟨%ι, Hsl, Hrd, Hwr⟩
  imodintro
  iapply (starts m ρ κ ι)
  isplitl [Hinv Hsl HL Hr]
  · isplitr [Hr]
    · iapply (ctx_intro (P m) κ ι)
      isplitl [Hinv]; · iexact Hinv
      isplitl [Hsl]; · iexact Hsl
      iexact HL
    iexact Hr
  isplitr [Hpl]
  · iapply deal
    isplitl [Hg]; · iexact Hg
    isplitl [Hat]; · iexact Hat
    isplitl [Htok]; · iexact Htok
    isplitl [Hrd]; · iexact Hrd
    isplitl [Hwr]; · iexact Hwr
    iexact Hopen
  iexact Hpl

end Cert.RingProof
end
-- ==== Proof.Run.lean ====
/-
  The run of the whole program: every execution ends, with the arguments as they were, all semaphores at zero,
  and on every device the sum of the devices' addends.
-/
module

public import proofs.«01_k».proof.Proof.Launch

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig ℕ (Elt F) ℕ UU ℕ

variable (m : (ℓ : Loc nD τ sig) → Buf (Elt F) ℓ)

/-! ## The run -/

set_option backward.isDefEq.respectTransparency.types false in
theorem run_main (ρ : Dev nD → PrngReg) : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v19) = V3 m (outs m) c main_v19) ∧ r.2.sem = fun _ => 0) :=
  Pipeline.θ_run_regions_kit_dev_sems (pcfgs (F := F)) adm (pdats m) 0 cellOf_inj EP defs₀ 𝒱₀ L lv m ρ main
    (segs m (outs m) 𝒱₀ L lv (E m) 0 (pdats m) (reg m))
    (fun c Q => by
      rewrite [main_chain c, Seg.run_eq_chain,
        show (segs m (outs m) 𝒱₀ L lv (E m) 0 (pdats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide)
    (O₀ := O₀) (hL := fun g h => if_neg h) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barC c) 0))
    (hch := fun c => ⟨.rfl, reg_pre m c, reg_post m c, by
      show iprop(StableHlo.held (c : Thread nD τ) (Pipeline.ucRefs τ sig) (V3 m (outs m) c) ∗ E m 1 c) ⊢ _
      rw [show E m 1 c = iprop((∃ r, prngReg c r) ∗ semVal (barC c) 0 ∗ ow c 0) from rfl]
      unfold ow
      iintro ⟨Hh, -, Hb, HO⟩
      isplitr [HO]
      · isplitl [Hh] <;> iassumption
      iexact HO⟩)
    (hinit := init m ρ)
    (QY := fun c s => (∀ r : Ref sig .tc, Proc.devRef .tc r ∈ Pipeline.ucRefs τ sig → s.mem ((c.tc : Thread nD τ).loc r) = V3 m (outs m) c r) ∧ s.sem (barC c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨fun r hr => h (Proc.devRef .tc r) hr, by simpa using hb⟩
      iexact HSI)
    (hQ := fun s h hs => ⟨fun c => by
        have hr (r : Ref sig .tc) (hu : r.isScoped = false) := (h c).1 r (Finset.mem_filter.mpr ⟨StableHlo.devRef_mem_tcRefs r, by simpa using hu⟩)
        exact ⟨⟨(hr main_arg0 rfl).trans (V3_main_arg0 m (outs m) c), (hr main_arg1 rfl).trans (V3_main_arg1 m (outs m) c),
          (hr main_arg2 rfl).trans (V3_main_arg2 m (outs m) c), (hr main_arg3 rfl).trans (V3_main_arg3 m (outs m) c),
          (hr main_arg4 rfl).trans (V3_main_arg4 m (outs m) c)⟩, hr main_v19 rfl⟩,
      sem_eq_zero hs fun c sm hsm => by
        obtain rfl := unscoped_eq sm hsm
        exact (h c).2⟩)

/-- The part of it that speaks of the arguments and the semaphores alone. -/
theorem run_kept (ρ : Dev nD → PrngReg) : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).1, h.2⟩) (run_main m ρ)

end Cert.RingProof
end
-- ==== Proof.Same.lean ====
/-
  The kernel as printed for bit patterns and as printed for extended reals are one text: a run of the second is a run of the first.
-/
module

public import proofs.«01_k».proof.Defs
public import proofs.«01_k».proof.Proof.Gen.Kernel
public import proofs.«01_k».proof.Proof.Gen.KernelIdeal

@[expose] public section

namespace Cert.RingProof

open Idealize.ShloMosaic Idealize.SL.Sem

variable {F : FTy → Type} [FloatOps F]

theorem main_same : Cert.Kernel.main (F := F) = Cert.KernelIdeal.main (F := F) := rfl

theorem body_same : @Cert.Kernel.cc0_body F _ _ = @Cert.KernelIdeal.cc0_body F _ _ := rfl

theorem bodies_same : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext ℓ a
  match ℓ, a with
  | 0, (t, s) => dsimp only; rw [body_same]

theorem defs_same : Cert.Kernel.defs (F := F) = Cert.KernelIdeal.defs (F := F) := by
  unfold Cert.Kernel.defs Cert.KernelIdeal.defs
  rw [bodies_same]; rfl

theorem run_same (s : MemSt Cert.Kernel.nD Cert.Kernel.τ Cert.Kernel.sig (Elt F))
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_same, main_same]
  exact h

end Cert.RingProof

end
-- ==== Proof.Head.lean ====
/-
  One head's work in the kernel's own operations, and the device's layer as the sum of its eight heads.
-/
module

public import proofs.«01_k».proof.Proof.Body

@[expose] public section

noncomputable section

namespace Cert.RingProof

open Cert.KernelIdeal Cert.KernelIdeal.Gen

open Idealize.ShloMosaic

variable {F : FTy → Type} [FloatOps F]

/-- One head: scores of its queries against its keys, masked, each row made a weight, then the values and the rows of the
    output projection. -/
def headOf (M : IVec S1024x1024 1) (q k v : FVec F S1024x128 .f32) (w : FVec F S128x1024 .f32) : FVec F S1024x1024 .f32 :=
  have s : FVec F S1024x1024 .f32 := select M
    (mulf (matmul dot_S1024x128_S1024x128_S1024x1024_1_1_0_0_n_n none q k (constant S1024x1024 .f32 0x00000000#32))
      (broadcast S1024x1024 (Scalar.ofBits .f32 0x3DB504F3#32 : F .f32)))
    (broadcast S1024x1024 (Scalar.ofBits .f32 0xCE6E6B28#32 : F .f32))
  have e : FVec F S1024x1024 .f32 := exp (subf s (broadcastTo S1024x1024
    (shapeCast S1024x1 (multiReduction .maximumf [1] S1024 s 0xFF800000#32 reduces_S1024x1024_S1024 (.inl rfl) rfl) shapeCasts_S1024_S1024x1)
    broadcasts_S1024x1_S1024x1024))
  have p : FVec F S1024x1024 .f32 := divf e (broadcastTo S1024x1024
    (shapeCast S1024x1 (multiReduction .add [1] S1024 e 0x00000000#32 reduces_S1024x1024_S1024 (.inl rfl) rfl) shapeCasts_S1024_S1024x1)
    broadcasts_S1024x1_S1024x1024)
  matmul dot_S1024x128_S128x1024_S1024x1024_1_0_0_1_n_n none
    (matmul dot_S1024x1024_S1024x128_S1024x128_1_0_0_1_n_n none p v (constant S1024x128 .f32 0x00000000#32)) w
    (constant S1024x1024 .f32 0x00000000#32)

/-- Head `h`'s keys (or values), of the device's eight heads'. -/
def headRows (h : ℕ) (hs : S1024x8x128.Slices ![0, h, 0] S1024x1x128) (k : FVec F S1024x8x128 .f32) : FVec F S1024x128 .f32 :=
  shapeCast S1024x128 (extractStridedSlice S1024x1x128 ![0, h, 0] k hs) shapeCasts_S1024x1x128_S1024x128

section
variable (q : FVec F S1024x1024 .f32) (kk vv : FVec F S1024x8x128 .f32) (w a b : FVec F S1024x1024 .f32) (M : IVec S1024x1024 1)

/-- Head 0 of the device. -/
def head0 : FVec F S1024x1024 .f32 := headOf M (extractStridedSlice S1024x128 ![0, 0] q slices_S1024x1024_o0_0_S1024x128)
    (headRows 0 slices_S1024x8x128_o0_0_0_S1024x1x128 kk) (headRows 0 slices_S1024x8x128_o0_0_0_S1024x1x128 vv)
    (extractStridedSlice S128x1024 ![0, 0] w slices_S1024x1024_o0_0_S128x1024)
/-- Head 1 of the device. -/
def head1 : FVec F S1024x1024 .f32 := headOf M (extractStridedSlice S1024x128 ![0, 128] q slices_S1024x1024_o0_128_S1024x128)
    (headRows 1 slices_S1024x8x128_o0_1_0_S1024x1x128 kk) (headRows 1 slices_S1024x8x128_o0_1_0_S1024x1x128 vv)
    (extractStridedSlice S128x1024 ![128, 0] w slices_S1024x1024_o128_0_S128x1024)
/-- Head 2 of the device. -/
def head2 : FVec F S1024x1024 .f32 := headOf M (extractStridedSlice S1024x128 ![0, 256] q slices_S1024x1024_o0_256_S1024x128)
    (headRows 2 slices_S1024x8x128_o0_2_0_S1024x1x128 kk) (headRows 2 slices_S1024x8x128_o0_2_0_S1024x1x128 vv)
    (extractStridedSlice S128x1024 ![256, 0] w slices_S1024x1024_o256_0_S128x1024)
/-- Head 3 of the device. -/
def head3 : FVec F S1024x1024 .f32 := headOf M (extractStridedSlice S1024x128 ![0, 384] q slices_S1024x1024_o0_384_S1024x128)
    (headRows 3 slices_S1024x8x128_o0_3_0_S1024x1x128 kk) (headRows 3 slices_S1024x8x128_o0_3_0_S1024x1x128 vv)
    (extractStridedSlice S128x1024 ![384, 0] w slices_S1024x1024_o384_0_S128x1024)
/-- Head 4 of the device. -/
def head4 : FVec F S1024x1024 .f32 := headOf M (extractStridedSlice S1024x128 ![0, 512] q slices_S1024x1024_o0_512_S1024x128)
    (headRows 4 slices_S1024x8x128_o0_4_0_S1024x1x128 kk) (headRows 4 slices_S1024x8x128_o0_4_0_S1024x1x128 vv)
    (extractStridedSlice S128x1024 ![512, 0] w slices_S1024x1024_o512_0_S128x1024)
/-- Head 5 of the device. -/
def head5 : FVec F S1024x1024 .f32 := headOf M (extractStridedSlice S1024x128 ![0, 640] q slices_S1024x1024_o0_640_S1024x128)
    (headRows 5 slices_S1024x8x128_o0_5_0_S1024x1x128 kk) (headRows 5 slices_S1024x8x128_o0_5_0_S1024x1x128 vv)
    (extractStridedSlice S128x1024 ![640, 0] w slices_S1024x1024_o640_0_S128x1024)
/-- Head 6 of the device. -/
def head6 : FVec F S1024x1024 .f32 := headOf M (extractStridedSlice S1024x128 ![0, 768] q slices_S1024x1024_o0_768_S1024x128)
    (headRows 6 slices_S1024x8x128_o0_6_0_S1024x1x128 kk) (headRows 6 slices_S1024x8x128_o0_6_0_S1024x1x128 vv)
    (extractStridedSlice S128x1024 ![768, 0] w slices_S1024x1024_o768_0_S128x1024)
/-- Head 7 of the device. -/
def head7 : FVec F S1024x1024 .f32 := headOf M (extractStridedSlice S1024x128 ![0, 896] q slices_S1024x1024_o0_896_S1024x128)
    (headRows 7 slices_S1024x8x128_o0_7_0_S1024x1x128 kk) (headRows 7 slices_S1024x8x128_o0_7_0_S1024x1x128 vv)
    (extractStridedSlice S128x1024 ![896, 0] w slices_S1024x1024_o896_0_S128x1024)

theorem pay10_eq : k0_pay10 q maskA maskB maskC 0#32 kk vv w = head0 q (k0_pay6 kk) (k0_pay7 vv) (k0_pay8 w) mask := rfl
theorem pay12_eq : k0_pay12 q M kk vv w = head2 q kk vv w M := rfl
theorem pay14_eq : k0_pay14 q M kk vv w = head4 q kk vv w M := rfl
theorem pay16_eq : k0_pay16 q M kk vv w = head6 q kk vv w M := rfl
theorem pay11_eq : k0_pay11 q M kk vv w a b = addf (addf a b) (head1 q kk vv w M) := rfl
theorem pay13_eq : k0_pay13 q M kk vv w a b = addf (addf a b) (head3 q kk vv w M) := rfl
theorem pay15_eq : k0_pay15 q M kk vv w a b = addf (addf a b) (head5 q kk vv w M) := rfl
theorem pay17_eq : k0_pay17 q M kk vv w a b = addf (addf a b) (head7 q kk vv w M) := rfl
end

/-- The layer is the sum of the eight heads, from zero. -/
theorem layer_eq (x wq : Vec F S1024x1024 .f32) (kk vv : Vec F S1024x8x128 .f32) (wo : Vec F S1024x1024 .f32) :
    layer x wq kk vv wo =
      (let q := k0_pay1 x wq
       let k := k0_pay6 kk
       let v := k0_pay7 vv
       let w := k0_pay8 wo
       addf (addf (addf (addf (addf (addf (addf (addf (k0_pay9 (F := F)) (head0 q k v w mask)) (head1 q k v w mask)) (head2 q k v w mask))
         (head3 q k v w mask)) (head4 q k v w mask)) (head5 q k v w mask)) (head6 q k v w mask)) (head7 q k v w mask)) := by
  unfold layer
  simp only [pay10_eq, pay11_eq, pay12_eq, pay13_eq, pay14_eq, pay15_eq, pay16_eq, pay17_eq]

end Cert.RingProof

end
-- ==== Proof.Attn.lean ====
/-
  Attention over the extended reals, index by index, and a kernel head read as it.
-/
module

public import proofs.«01_k».proof.Proof.Head
public import Idealize.ShloMosaic.Lib.Pointwise

@[expose] public section

set_option maxRecDepth 16384

noncomputable section

namespace Cert.RingProof

open Cert.KernelIdeal Cert.KernelIdeal.Gen

open Idealize.ShloMosaic

/-- Whether row `i` sees column `t`: their blocks of 64 agree modulo 4. -/
def sees (i t : Fin 1024) : BitVec 1 := BitVec.ofBool (decide (i.val / 64 % 4 = t.val / 64 % 4))

/-- A masked score: the scaled inner product where the row sees the column, a large negative number elsewhere. -/
def score (b : BitVec 1) (q k : Fin 128 → EReal) : EReal :=
  Scalar.select b ((∑ d : Fin 128, q d * k d) * Ideal.ofBits FTy.f32 0x3DB504F3#32) (Ideal.ofBits FTy.f32 0xCE6E6B28#32)

/-- A row's greatest score. -/
def top (s : Fin 1024 → EReal) : EReal := Finset.fold max (Ideal.ofBits FTy.f32 0xFF800000#32) s Finset.univ

/-- The weight of column `t` in a row of scores. -/
def weight (s : Fin 1024 → EReal) (t : Fin 1024) : EReal :=
  Ideal.div (Ideal.exp (s t - top s)) (∑ x : Fin 1024, Ideal.exp (s x - top s))

/-- One entry of a head's context: the values of a column weighted by a row of scores. -/
def mix (s v : Fin 1024 → EReal) : EReal := ∑ t : Fin 1024, weight s t * v t

theorem headOf_apply (M : IVec S1024x1024 1) (q k v : FVec Ideal S1024x128 .f32) (w : FVec Ideal S128x1024 .f32) (i j : Fin 1024) :
    headOf M q k v w (ix2 i j)
      = ∑ d : Fin 128, mix (fun t => score (M (ix2 i t)) (fun e => q (ix2 i e)) (fun e => k (ix2 t e))) (fun t => v (ix2 t d)) * w (ix2 d j) := by
  pointwise [headOf]
  rfl

theorem headRows_apply (h : Fin 8) (hs : S1024x8x128.Slices ![0, h.val, 0] S1024x1x128) (k : FVec Ideal S1024x8x128 .f32) (i : Fin 1024) (d : Fin 128) :
    headRows h.val hs k (ix2 i d) = k (ix3 i h d) := by
  pointwise [headRows]

/-- Column `128 h + d` of 1024. -/
def colOf (h : Fin 8) (d : Fin 128) : Fin 1024 := ⟨128 * h.val + d.val, by omega⟩

section
variable (q : FVec Ideal S1024x1024 .f32) (kk vv : FVec Ideal S1024x8x128 .f32) (w : FVec Ideal S1024x1024 .f32) (M : IVec S1024x1024 1)
  (i j : Fin 1024)

/-- Head `h`'s entry of the projected context. -/
def headAt (h : Fin 8) : EReal :=
  ∑ d : Fin 128, mix (fun t => score (M (ix2 i t)) (fun e => q (ix2 i (colOf h e))) (fun e => kk (ix3 t h e))) (fun t => vv (ix3 t h d))
    * w (ix2 (colOf h d) j)

theorem head0_apply : head0 q kk vv w M (ix2 i j) = headAt q kk vv w M i j 0 := by
  unfold head0 headAt
  rw [headOf_apply]
  refine Finset.sum_congr rfl fun d _ => ?_
  have hk : ∀ t d, headRows 0 slices_S1024x8x128_o0_0_0_S1024x1x128 kk (ix2 t d) = kk (ix3 t 0 d) := fun t d => headRows_apply 0 _ kk t d
  have hv : ∀ t d, headRows 0 slices_S1024x8x128_o0_0_0_S1024x1x128 vv (ix2 t d) = vv (ix3 t 0 d) := fun t d => headRows_apply 0 _ vv t d
  have hq : ∀ d, extractStridedSlice S1024x128 ![0, 0] q slices_S1024x1024_o0_0_S1024x128 (ix2 i d) = q (ix2 i (colOf 0 d)) := fun d => by
    pointwise [colOf]
  have hw : extractStridedSlice S128x1024 ![0, 0] w slices_S1024x1024_o0_0_S128x1024 (ix2 d j) = w (ix2 (colOf 0 d) j) := by
    pointwise [colOf]
  simp only [hk, hv, hq, hw]

theorem head1_apply : head1 q kk vv w M (ix2 i j) = headAt q kk vv w M i j 1 := by
  unfold head1 headAt
  rw [headOf_apply]
  refine Finset.sum_congr rfl fun d _ => ?_
  have hk : ∀ t d, headRows 1 slices_S1024x8x128_o0_1_0_S1024x1x128 kk (ix2 t d) = kk (ix3 t 1 d) := fun t d => headRows_apply 1 _ kk t d
  have hv : ∀ t d, headRows 1 slices_S1024x8x128_o0_1_0_S1024x1x128 vv (ix2 t d) = vv (ix3 t 1 d) := fun t d => headRows_apply 1 _ vv t d
  have hq : ∀ d, extractStridedSlice S1024x128 ![0, 128] q slices_S1024x1024_o0_128_S1024x128 (ix2 i d) = q (ix2 i (colOf 1 d)) := fun d => by
    pointwise [colOf]
  have hw : extractStridedSlice S128x1024 ![128, 0] w slices_S1024x1024_o128_0_S128x1024 (ix2 d j) = w (ix2 (colOf 1 d) j) := by
    pointwise [colOf]
  simp only [hk, hv, hq, hw]

theorem head2_apply : head2 q kk vv w M (ix2 i j) = headAt q kk vv w M i j 2 := by
  unfold head2 headAt
  rw [headOf_apply]
  refine Finset.sum_congr rfl fun d _ => ?_
  have hk : ∀ t d, headRows 2 slices_S1024x8x128_o0_2_0_S1024x1x128 kk (ix2 t d) = kk (ix3 t 2 d) := fun t d => headRows_apply 2 _ kk t d
  have hv : ∀ t d, headRows 2 slices_S1024x8x128_o0_2_0_S1024x1x128 vv (ix2 t d) = vv (ix3 t 2 d) := fun t d => headRows_apply 2 _ vv t d
  have hq : ∀ d, extractStridedSlice S1024x128 ![0, 256] q slices_S1024x1024_o0_256_S1024x128 (ix2 i d) = q (ix2 i (colOf 2 d)) := fun d => by
    pointwise [colOf]
  have hw : extractStridedSlice S128x1024 ![256, 0] w slices_S1024x1024_o256_0_S128x1024 (ix2 d j) = w (ix2 (colOf 2 d) j) := by
    pointwise [colOf]
  simp only [hk, hv, hq, hw]

theorem head3_apply : head3 q kk vv w M (ix2 i j) = headAt q kk vv w M i j 3 := by
  unfold head3 headAt
  rw [headOf_apply]
  refine Finset.sum_congr rfl fun d _ => ?_
  have hk : ∀ t d, headRows 3 slices_S1024x8x128_o0_3_0_S1024x1x128 kk (ix2 t d) = kk (ix3 t 3 d) := fun t d => headRows_apply 3 _ kk t d
  have hv : ∀ t d, headRows 3 slices_S1024x8x128_o0_3_0_S1024x1x128 vv (ix2 t d) = vv (ix3 t 3 d) := fun t d => headRows_apply 3 _ vv t d
  have hq : ∀ d, extractStridedSlice S1024x128 ![0, 384] q slices_S1024x1024_o0_384_S1024x128 (ix2 i d) = q (ix2 i (colOf 3 d)) := fun d => by
    pointwise [colOf]
  have hw : extractStridedSlice S128x1024 ![384, 0] w slices_S1024x1024_o384_0_S128x1024 (ix2 d j) = w (ix2 (colOf 3 d) j) := by
    pointwise [colOf]
  simp only [hk, hv, hq, hw]

theorem head4_apply : head4 q kk vv w M (ix2 i j) = headAt q kk vv w M i j 4 := by
  unfold head4 headAt
  rw [headOf_apply]
  refine Finset.sum_congr rfl fun d _ => ?_
  have hk : ∀ t d, headRows 4 slices_S1024x8x128_o0_4_0_S1024x1x128 kk (ix2 t d) = kk (ix3 t 4 d) := fun t d => headRows_apply 4 _ kk t d
  have hv : ∀ t d, headRows 4 slices_S1024x8x128_o0_4_0_S1024x1x128 vv (ix2 t d) = vv (ix3 t 4 d) := fun t d => headRows_apply 4 _ vv t d
  have hq : ∀ d, extractStridedSlice S1024x128 ![0, 512] q slices_S1024x1024_o0_512_S1024x128 (ix2 i d) = q (ix2 i (colOf 4 d)) := fun d => by
    pointwise [colOf]
  have hw : extractStridedSlice S128x1024 ![512, 0] w slices_S1024x1024_o512_0_S128x1024 (ix2 d j) = w (ix2 (colOf 4 d) j) := by
    pointwise [colOf]
  simp only [hk, hv, hq, hw]

theorem head5_apply : head5 q kk vv w M (ix2 i j) = headAt q kk vv w M i j 5 := by
  unfold head5 headAt
  rw [headOf_apply]
  refine Finset.sum_congr rfl fun d _ => ?_
  have hk : ∀ t d, headRows 5 slices_S1024x8x128_o0_5_0_S1024x1x128 kk (ix2 t d) = kk (ix3 t 5 d) := fun t d => headRows_apply 5 _ kk t d
  have hv : ∀ t d, headRows 5 slices_S1024x8x128_o0_5_0_S1024x1x128 vv (ix2 t d) = vv (ix3 t 5 d) := fun t d => headRows_apply 5 _ vv t d
  have hq : ∀ d, extractStridedSlice S1024x128 ![0, 640] q slices_S1024x1024_o0_640_S1024x128 (ix2 i d) = q (ix2 i (colOf 5 d)) := fun d => by
    pointwise [colOf]
  have hw : extractStridedSlice S128x1024 ![640, 0] w slices_S1024x1024_o640_0_S128x1024 (ix2 d j) = w (ix2 (colOf 5 d) j) := by
    pointwise [colOf]
  simp only [hk, hv, hq, hw]

theorem head6_apply : head6 q kk vv w M (ix2 i j) = headAt q kk vv w M i j 6 := by
  unfold head6 headAt
  rw [headOf_apply]
  refine Finset.sum_congr rfl fun d _ => ?_
  have hk : ∀ t d, headRows 6 slices_S1024x8x128_o0_6_0_S1024x1x128 kk (ix2 t d) = kk (ix3 t 6 d) := fun t d => headRows_apply 6 _ kk t d
  have hv : ∀ t d, headRows 6 slices_S1024x8x128_o0_6_0_S1024x1x128 vv (ix2 t d) = vv (ix3 t 6 d) := fun t d => headRows_apply 6 _ vv t d
  have hq : ∀ d, extractStridedSlice S1024x128 ![0, 768] q slices_S1024x1024_o0_768_S1024x128 (ix2 i d) = q (ix2 i (colOf 6 d)) := fun d => by
    pointwise [colOf]
  have hw : extractStridedSlice S128x1024 ![768, 0] w slices_S1024x1024_o768_0_S128x1024 (ix2 d j) = w (ix2 (colOf 6 d) j) := by
    pointwise [colOf]
  simp only [hk, hv, hq, hw]

theorem head7_apply : head7 q kk vv w M (ix2 i j) = headAt q kk vv w M i j 7 := by
  unfold head7 headAt
  rw [headOf_apply]
  refine Finset.sum_congr rfl fun d _ => ?_
  have hk : ∀ t d, headRows 7 slices_S1024x8x128_o0_7_0_S1024x1x128 kk (ix2 t d) = kk (ix3 t 7 d) := fun t d => headRows_apply 7 _ kk t d
  have hv : ∀ t d, headRows 7 slices_S1024x8x128_o0_7_0_S1024x1x128 vv (ix2 t d) = vv (ix3 t 7 d) := fun t d => headRows_apply 7 _ vv t d
  have hq : ∀ d, extractStridedSlice S1024x128 ![0, 896] q slices_S1024x1024_o0_896_S1024x128 (ix2 i d) = q (ix2 i (colOf 7 d)) := fun d => by
    pointwise [colOf]
  have hw : extractStridedSlice S128x1024 ![896, 0] w slices_S1024x1024_o896_0_S128x1024 (ix2 d j) = w (ix2 (colOf 7 d) j) := by
    pointwise [colOf]
  simp only [hk, hv, hq, hw]

end

end Cert.RingProof

end
-- ==== Proof.KerVal.lean ====
/-
  What the kernel returns, index by index.
-/
module

public import proofs.«01_k».proof.Proof.Run
public import proofs.«01_k».proof.Proof.Attn
public import Idealize.ShloMosaic.Lib.StableHlo.ReadAt

@[expose] public section

set_option maxRecDepth 16384

noncomputable section

namespace Cert.RingProof

open Cert.KernelIdeal Cert.KernelIdeal.Gen

open Idealize.ShloMosaic
open Idealize.ShloMosaic.TcCoe

/-! ## The mask -/

theorem pay2_apply (i t : Fin 1024) : k0_pay2 (ix2 i t) = BitVec.ofNat 32 (i.val / 64) := by
  pointwise [k0_pay2]
  revert i
  decide +kernel

theorem maskA_apply (i t : Fin 1024) : maskA (ix2 i t) = BitVec.ofNat 32 (i.val / 64 % 4) := by
  unfold maskA
  pointwise [k0_pay3]
  simp only [pay2_apply]
  revert i
  decide +kernel

theorem maskC_apply (i t : Fin 1024) : maskC (ix2 i t) = BitVec.ofNat 32 (t.val / 64 % 4) := by
  unfold maskC
  pointwise [k0_pay4]
  revert t
  decide +kernel

theorem mask_apply (i t : Fin 1024) : mask (ix2 i t) = sees i t := by
  unfold mask
  pointwise [k0_pay5]
  simp only [maskA_apply, maskC_apply]
  unfold sees
  obtain ⟨a, ha⟩ : ∃ a : Fin 16, i.val / 64 = a.val := ⟨⟨i.val / 64, by omega⟩, rfl⟩
  obtain ⟨b, hb⟩ : ∃ b : Fin 16, t.val / 64 = b.val := ⟨⟨t.val / 64, by omega⟩, rfl⟩
  rw [ha, hb]
  clear ha hb
  revert a b
  decide +kernel

/-! ## One device's layer -/

section
variable (x wq : Vec Ideal S1024x1024 .f32) (kk vv : Vec Ideal S1024x8x128 .f32) (wo : Vec Ideal S1024x1024 .f32) (i j : Fin 1024)

theorem pay1_apply : k0_pay1 x wq (ix2 i j) = ∑ y : Fin 1024, x (ix2 i y) * wq (ix2 y j) := by
  pointwise [k0_pay1]

theorem pay6_eq : k0_pay6 kk = kk := by
  funext y; obtain ⟨a, b, d, rfl⟩ : ∃ a b d, y = ix3 a b d := ⟨y 0, y 1, y 2, eq_ix3 y⟩
  pointwise [k0_pay6]
theorem pay7_eq : k0_pay7 kk = kk := pay6_eq kk
theorem pay8_eq : k0_pay8 wo = wo := by
  funext y; obtain ⟨a, b, rfl⟩ : ∃ a b, y = ix2 a b := ⟨y 0, y 1, eq_ix2 y⟩
  pointwise [k0_pay8]

theorem layer_apply : layer x wq kk vv wo (ix2 i j) = ∑ h : Fin 8, headAt (k0_pay1 x wq) kk vv wo mask i j h := by
  rw [layer_eq]
  simp only [pay6_eq, pay7_eq, pay8_eq]
  pointwise [k0_pay9]
  simp only [head0_apply, head1_apply, head2_apply, head3_apply, head4_apply, head5_apply, head6_apply, head7_apply, Fin.sum_univ_eight]

end

/-! ## The operands -/

section
variable (m : (ℓ : Loc nD τ sig) → Buf (Elt Ideal) ℓ) (c : Dev nD)

theorem opX (i y : Fin 1024) : V1 m c main_v5 (ix2 i y) = m ((c : Thread nD τ).loc main_arg0) (ix3 0 i y) := by
  unfold V1
  after_reads_at

theorem opK (t : Fin 1024) (h : Fin 8) (d : Fin 128) : V1 m c main_v16 (ix3 t h d) = m ((c : Thread nD τ).loc main_arg2) (ix4 0 t h d) := by
  unfold V1
  after_reads_at

theorem opV (t : Fin 1024) (h : Fin 8) (d : Fin 128) : V1 m c main_v17 (ix3 t h d) = m ((c : Thread nD τ).loc main_arg3) (ix4 0 t h d) := by
  unfold V1
  after_reads_at

/-- Column (or row) `n` of the device's 1024 of 32768. -/
def mine (n : Fin 1024) : Fin 32768 := ⟨1024 * c.val + n.val, by have h : c.val < 32 := c.isLt; omega⟩

/-- The device's first column, as the host operations compute it, -/
theorem startQ : StableHlo.upto (hostOps0 c) (V0 m c) 15 (Proc.tc.devRef main_v9) (Shape.Idx.first h_S_) = BitVec.ofNat 32 (1024 * c.val) := by
  after_reads_at
  revert c
  decide +kernel
theorem startQ0 : StableHlo.upto (hostOps0 c) (V0 m c) 15 (Proc.tc.devRef main_c_4) (Shape.Idx.first h_S_) = 0#32 := by
  after_reads_at
/-- and its first row. -/
theorem startO : StableHlo.upto (hostOps0 c) (V0 m c) 24 (Proc.tc.devRef main_v14) (Shape.Idx.first h_S_) = BitVec.ofNat 32 (1024 * c.val) := by
  after_reads_at
  revert c
  decide +kernel
theorem startO0 : StableHlo.upto (hostOps0 c) (V0 m c) 24 (Proc.tc.devRef main_c_8) (Shape.Idx.first h_S_) = 0#32 := by
  after_reads_at

theorem word_toInt : (BitVec.ofNat 32 (1024 * c.val)).toInt = 1024 * (c.val : ℤ) := by
  revert c
  decide +kernel

theorem clampQ (f : Fin 2 → ℤ) (h0 : f 0 = 0) (h1 : f 1 = 1024 * (c.val : ℤ)) :
    Host.clampedStart S1024x32768 S1024x1024 rfl f 0 = 0
      ∧ Host.clampedStart S1024x32768 S1024x1024 rfl f 1 = 1024 * c.val := by
  have hc : c.val < 32 := c.isLt
  unfold Host.clampedStart
  rw [h0, h1]
  exact ⟨by simp, by simp; omega⟩

theorem clampO (f : Fin 2 → ℤ) (h0 : f 0 = 1024 * (c.val : ℤ)) (h1 : f 1 = 0) :
    Host.clampedStart S32768x1024 S1024x1024 rfl f 0 = 1024 * c.val
      ∧ Host.clampedStart S32768x1024 S1024x1024 rfl f 1 = 0 := by
  have hc : c.val < 32 := c.isLt
  unfold Host.clampedStart
  rw [h0, h1]
  exact ⟨by simp; omega, by simp⟩

theorem opQ (y n : Fin 1024) : V1 m c main_v10 (ix2 y n) = m ((c : Thread nD τ).loc main_arg1) (ix2 y (mine c n)) := by
  unfold V1
  after_reads_at
  show m ((c : Thread nD τ).loc main_arg1) _ = _
  have h0 := congrArg BitVec.toInt (startQ0 m c)
  have h1 := (congrArg BitVec.toInt (startQ m c)).trans (word_toInt c)
  generalize StableHlo.upto (hostOps0 c) (V0 m c) 15 = U at h0 h1 ⊢
  congr 2
  · apply Fin.ext
    exact (congrArg (· + y.val) (clampQ c _ h0 h1).1).trans (Nat.zero_add _)
  · apply Fin.ext
    exact congrArg (· + n.val) (clampQ c _ h0 h1).2

theorem opO (n j : Fin 1024) : V1 m c main_v15 (ix2 n j) = m ((c : Thread nD τ).loc main_arg4) (ix2 (mine c n) j) := by
  unfold V1
  after_reads_at
  show m ((c : Thread nD τ).loc main_arg4) _ = _
  have h0 := (congrArg BitVec.toInt (startO m c)).trans (word_toInt c)
  have h1 := congrArg BitVec.toInt (startO0 m c)
  generalize StableHlo.upto (hostOps0 c) (V0 m c) 24 = U at h0 h1 ⊢
  congr 2
  · apply Fin.ext
    exact congrArg (· + n.val) (clampO c _ h0 h1).1
  · apply Fin.ext
    exact (congrArg (· + j.val) (clampO c _ h0 h1).2).trans (Nat.zero_add _)
end

end Cert.RingProof

end
-- ==== Proof.RefVal.lean ====
/-
  The reference's result, index by index.
-/
module

public import proofs.«01_k».proof.Proof.Gen.ReferenceIdeal.Run
public import proofs.«01_k».proof.Proof.Attn
public import Idealize.ShloMosaic.Lib.Pointwise
public import Idealize.ShloMosaic.Lib.Tactic.CleanTypes
public import Idealize.ShloMosaic.Lib.Routing.OpsOrder

@[expose] public section

set_option maxRecDepth 16384

noncomputable section

namespace Cert.RingProof.Ref

open Cert.ReferenceIdeal Cert.ReferenceIdeal.Gen

open Idealize.ShloMosaic

/-! ## The reference's steps, each under a name -/

/-- The constant `n` on every position. -/
abbrev splat (n : BitVec 32) : IVec S_ 32 := constantI S_ 32 n
/-- Each position's block of 64: the floor of its quotient. -/
def blk : IVec S1024 32 :=
  have p : IVec S1024 32 := iotaInDim S1024 32 0
  have d : IVec S_ 32 := id (splat 64#32)
  have c : IVec S1024 32 := broadcastInDim S1024 ![] bcast_S_S1024 d
  select (andi (cmpi .ne (signi p) (broadcastInDim S1024 ![] bcast_S_S1024 (signi d)))
      (cmpi .ne (Host.remsi p c) (broadcastInDim S1024 ![] bcast_S_S1024 (splat 0#32))))
    (subi (Host.divsi p c) (broadcastInDim S1024 ![] bcast_S_S1024 (splat 1#32))) (Host.divsi p c)
/-- The modulus. -/
def four : IVec S_ 32 := select (cmpi .eq (id (splat 4#32)) (splat 0#32)) (splat 1#32) (id (splat 4#32))
def rowBlk : IVec S1024x1 32 := broadcastInDim S1024x1 ![0] bcast_S1024_S1024x1_0 blk
def colBlk : IVec S1x1024 32 := broadcastInDim S1x1024 ![1] bcast_S1024_S1x1024_1 blk
/-- The blocks modulo 4, down the rows -/
def rowMod : IVec S1024x1 32 :=
  have r : IVec S1024x1 32 := Host.remsi rowBlk (broadcastInDim S1024x1 ![] bcast_S_S1024x1 four)
  have z : IVec S1024x1 32 := broadcastInDim S1024x1 ![] bcast_S_S1024x1 (splat 0#32)
  select (andi (cmpi .ne (cmpi .slt r z) (broadcastInDim S1024x1 ![] bcast_S_S1024x1 (cmpi .slt four (splat 0#32)))) (cmpi .ne r z))
    (addi r (broadcastInDim S1024x1 ![] bcast_S_S1024x1 four)) r
/-- and along the columns. -/
def colMod : IVec S1x1024 32 :=
  have r : IVec S1x1024 32 := Host.remsi colBlk (broadcastInDim S1x1024 ![] bcast_S_S1x1024 four)
  have z : IVec S1x1024 32 := broadcastInDim S1x1024 ![] bcast_S_S1x1024 (splat 0#32)
  select (andi (cmpi .ne (cmpi .slt r z) (broadcastInDim S1x1024 ![] bcast_S_S1x1024 (cmpi .slt four (splat 0#32)))) (cmpi .ne r z))
    (addi r (broadcastInDim S1x1024 ![] bcast_S_S1x1024 four)) r
/-- The reference's mask: the same block, or blocks equal modulo 4. -/
def maskR : IVec S1024x1024 1 :=
  ori (cmpi .eq (broadcastInDim S1024x1024 ![0, 1] bcast_S1024x1_S1024x1024_0_1 rowBlk) (broadcastInDim S1024x1024 ![0, 1] bcast_S1x1024_S1024x1024_0_1 colBlk))
    (cmpi .eq (broadcastInDim S1024x1024 ![0, 1] bcast_S1x1024_S1024x1024_0_1 colMod) (broadcastInDim S1024x1024 ![0, 1] bcast_S1024x1_S1024x1024_0_1 rowMod))
/-- Whether a row sees any column. -/
def keep (M : IVec S1024x1024 1) : IVec S1x1x1024x1 1 :=
  broadcastInDim S1x1x1024x1 ![2] bcast_S1024_S1x1x1024x1_2 (Host.reduce IntOp.ori M (constantI S_ 1 0#1) reducesTo_S1024x1024_S1024_d1 h_S_)

section
variable (M : IVec S1024x1024 1) (x : FVec Ideal S1x1024x1024 .f32) (wq : FVec Ideal S1024x32768 .f32) (k v : FVec Ideal S1x1024x256x128 .f32)
  (wo : FVec Ideal S32768x1024 .f32)

/-- The masked scores, -/
def scores : FVec Ideal S1x256x1024x1024 .f32 :=
  select (broadcastInDim S1x256x1024x1024 ![0, 1, 2, 3] bcast_S1x1x1024x1024_S1x256x1024x1024_0_1_2_3
      (broadcastInDim S1x1x1024x1024 ![2, 3] bcast_S1024x1024_S1x1x1024x1024_2_3 M))
    (mulf (Host.dotGeneral dot_S1x1024x256x128_S1x1024x256x128_S1x256x1024x1024_3_3_1_1_02_02 none
        (shapeCast S1x1024x256x128 (Host.dotGeneral dot_S1x1024x1024_S1024x32768_S1x1024x32768_2_0_01_1_n_n none x wq) shapeCasts_S1x1024x32768_S1x1024x256x128) k)
      (broadcastInDim S1x256x1024x1024 ![] bcast_S_S1x256x1024x1024 (constant S_ .f32 0x3DB504F3#32)))
    (broadcastInDim S1x256x1024x1024 ![] bcast_S_S1x256x1024x1024 (id (constant S_ .f32 0xCE6E6B28#32)))
/-- their exponentials, -/
def exps (s : FVec Ideal S1x256x1024x1024 .f32) : FVec Ideal S1x256x1024x1024 .f32 :=
  Host.exp (subf s (broadcastInDim S1x256x1024x1024 ![0, 1, 2, 3] bcast_S1x256x1024x1_S1x256x1024x1024_0_1_2_3
    (broadcastInDim S1x256x1024x1 ![0, 1, 2] bcast_S1x256x1024_S1x256x1024x1_0_1_2
      (Host.reduce FloatOps.maximumf s (constant S_ .f32 0xFF800000#32) reducesTo_S1x256x1024x1024_S1x256x1024_d3 h_S_))))
/-- the weights, -/
def weights (K : IVec S1x1x1024x1 1) (e : FVec Ideal S1x256x1024x1024 .f32) : FVec Ideal S1x256x1024x1024 .f32 :=
  select (broadcastInDim S1x256x1024x1024 ![0, 1, 2, 3] bcast_S1x1x1024x1_S1x256x1024x1024_0_1_2_3 K)
    (Host.divf e (broadcastInDim S1x256x1024x1024 ![0, 1, 2, 3] bcast_S1x256x1024x1_S1x256x1024x1024_0_1_2_3
      (select (broadcastInDim S1x256x1024x1 ![0, 1, 2, 3] bcast_S1x1x1024x1_S1x256x1024x1_0_1_2_3 K)
        (broadcastInDim S1x256x1024x1 ![0, 1, 2] bcast_S1x256x1024_S1x256x1024x1_0_1_2
          (Host.reduceAdd e (constant S_ .f32 0x00000000#32) reducesTo_S1x256x1024x1024_S1x256x1024_d3 h_S_))
        (broadcastInDim S1x256x1024x1 ![] bcast_S_S1x256x1024x1 (id (constant S_ .f32 0x3F800000#32))))))
    (broadcastInDim S1x256x1024x1024 ![] bcast_S_S1x256x1024x1024 (id (constant S_ .f32 0x00000000#32)))
/-- and the projected context. -/
def project (w : FVec Ideal S1x256x1024x1024 .f32) : FVec Ideal S1x1024x1024 .f32 :=
  Host.dotGeneral dot_S1x1024x32768_S32768x1024_S1x1024x1024_2_0_01_1_n_n none
    (shapeCast S1x1024x32768 (transpose S1x1024x256x128 [0, 3, 1, 2]
      (Host.dotGeneral dot_S1x1024x256x128_S1x256x1024x1024_S1x256x128x1024_1_3_3_2_02_01 none v w)
      transposes_S1x256x128x1024_S1x1024x256x128_0_3_1_2) shapeCasts_S1x1024x256x128_S1x1024x32768) wo

/-- The whole reference over a mask. -/
def whole : FVec Ideal S1x1024x1024 .f32 := project v wo (weights (keep M) (exps (scores M x wq k)))

end

variable (m : (ℓ : Loc nD τ sig) → Buf (Elt Ideal) ℓ) (c : Dev nD)

theorem res_eq : Cert.ReferenceIdeal.Value.res_main_v39 m c
    = whole maskR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-! ## Read at an index -/

/-- Column `128 h + d` of the 256 heads' 32768. -/
def colR (h : Fin 256) (d : Fin 128) : Fin 32768 := ⟨h.val * 128 + d.val, by omega⟩

section
variable (M : IVec S1024x1024 1) (x : FVec Ideal S1x1024x1024 .f32) (wq : FVec Ideal S1024x32768 .f32) (k v : FVec Ideal S1x1024x256x128 .f32)
  (wo : FVec Ideal S32768x1024 .f32)

theorem scores_apply (h : Fin 256) (i t : Fin 1024) : scores M x wq k (ix4 0 h i t)
    = score (M (ix2 i t)) (fun e => ∑ y : Fin 1024, x (ix3 0 i y) * wq (ix2 y (colR h e))) (fun e => k (ix4 0 t h e)) := by
  pointwise [scores]
  rfl

theorem exps_apply (s : FVec Ideal S1x256x1024x1024 .f32) (h : Fin 256) (i t : Fin 1024) : exps s (ix4 0 h i t)
    = Ideal.exp (s (ix4 0 h i t) - top (fun t => s (ix4 0 h i t))) := by
  pointwise [exps]
  rfl

theorem weights_apply (K : IVec S1x1x1024x1 1) (e : FVec Ideal S1x256x1024x1024 .f32) (h : Fin 256) (i t : Fin 1024)
    (hK : K (ix4 0 0 i 0) = 1#1) : weights K e (ix4 0 h i t) = Ideal.div (e (ix4 0 h i t)) (∑ y : Fin 1024, e (ix4 0 h i y)) := by
  pointwise [weights]
  rw [hK]
  rfl

theorem keep_apply (i : Fin 1024) (h : M (ix2 i i) = 1#1) : keep M (ix4 0 0 i 0) = 1#1 := by
  pointwise [keep]
  exact (Routing.fold_ori _ _).2 ⟨i, Finset.mem_univ _, h⟩

theorem project_apply (w : FVec Ideal S1x256x1024x1024 .f32) (i j : Fin 1024) : project v wo w (ix3 0 i j)
    = ∑ n : Fin 32768, (∑ t : Fin 1024, v (ix4 0 t ⟨n.val / 128, by omega⟩ ⟨n.val % 128, by omega⟩) * w (ix4 0 ⟨n.val / 128, by omega⟩ i t)) * wo (ix2 n j) := by
  pointwise [project]

/-- The reference's entry, given that every row sees its own column. -/
theorem whole_apply (i j : Fin 1024) (hM : ∀ i, M (ix2 i i) = 1#1) : whole M x wq k v wo (ix3 0 i j)
    = ∑ h : Fin 256, ∑ d : Fin 128, mix (fun t => score (M (ix2 i t)) (fun e => ∑ y : Fin 1024, x (ix3 0 i y) * wq (ix2 y (colR h e))) (fun e => k (ix4 0 t h e)))
        (fun t => v (ix4 0 t h d)) * wo (ix2 (colR h d) j) := by
  unfold whole
  rw [project_apply]
  rw [← Fintype.sum_prod_type']
  refine (Fintype.sum_equiv (finProdFinEquiv (m := 256) (n := 128)) _ _ fun p => ?_).symm
  obtain ⟨h, d⟩ := p
  have hn : (finProdFinEquiv (h, d) : Fin (256 * 128)) = colR h d := by
    apply Fin.ext; simp [finProdFinEquiv, colR]; omega
  have e1 : (⟨(colR h d).val / 128, by omega⟩ : Fin 256) = h := by apply Fin.ext; simp [colR]; omega
  have e2 : (⟨(colR h d).val % 128, by omega⟩ : Fin 128) = d := by apply Fin.ext; simp [colR]
  rw [hn]
  simp only [e1, e2]
  congr 1
  refine Finset.sum_congr rfl fun t _ => ?_
  rw [weights_apply _ _ _ _ _ (keep_apply _ _ (hM i)), mul_comm]
  simp only [exps_apply, scores_apply]
  rfl
end

/-! ## The mask -/

theorem blk_apply (i : Fin 1024) : blk (ix1 i) = BitVec.ofNat 32 (i.val / 64) := by
  pointwise [blk, splat]
  revert i
  decide +kernel

theorem rowBlk_apply (i : Fin 1024) : rowBlk (ix2 i 0) = BitVec.ofNat 32 (i.val / 64) := by
  pointwise [rowBlk]
  exact blk_apply i

theorem colBlk_apply (i : Fin 1024) : colBlk (ix2 0 i) = BitVec.ofNat 32 (i.val / 64) := by
  pointwise [colBlk]
  exact blk_apply i

theorem rowMod_apply (i : Fin 1024) : rowMod (ix2 i 0) = BitVec.ofNat 32 (i.val / 64 % 4) := by
  pointwise [rowMod, four, splat]
  simp only [rowBlk_apply]
  revert i
  decide +kernel

theorem colMod_apply (i : Fin 1024) : colMod (ix2 0 i) = BitVec.ofNat 32 (i.val / 64 % 4) := by
  pointwise [colMod, four, splat]
  simp only [colBlk_apply]
  revert i
  decide +kernel

theorem mod_bits : ∀ a b : Fin 16, IntOp.ori (IntOp.cmpi .eq (BitVec.ofNat 32 a.val) (BitVec.ofNat 32 b.val))
    (IntOp.cmpi .eq (BitVec.ofNat 32 (b.val % 4)) (BitVec.ofNat 32 (a.val % 4))) = BitVec.ofBool (decide (a.val % 4 = b.val % 4)) := by
  decide +kernel

theorem maskR_apply (i t : Fin 1024) : maskR (ix2 i t) = sees i t := by
  pointwise [maskR]
  simp only [rowBlk_apply, colBlk_apply, rowMod_apply, colMod_apply]
  exact mod_bits ⟨i.val / 64, by omega⟩ ⟨t.val / 64, by omega⟩

theorem sees_self (i : Fin 1024) : sees i i = 1#1 := by simp [sees]

/-- Row `i`, column `j` of the layer over all 256 heads. -/
def answer (x : FVec Ideal S1x1024x1024 .f32) (wq : FVec Ideal S1024x32768 .f32) (k v : FVec Ideal S1x1024x256x128 .f32)
    (wo : FVec Ideal S32768x1024 .f32) (i j : Fin 1024) : EReal :=
  ∑ h : Fin 256, ∑ d : Fin 128, mix (fun t => score (sees i t) (fun e => ∑ y : Fin 1024, x (ix3 0 i y) * wq (ix2 y (colR h e))) (fun e => k (ix4 0 t h e)))
    (fun t => v (ix4 0 t h d)) * wo (ix2 (colR h d) j)

/-- The reference's result at row `i`, column `j`. -/
theorem res_apply (i j : Fin 1024) : Cert.ReferenceIdeal.Value.res_main_v39 m c (ix3 0 i j)
    = answer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) i j := by
  rw [res_eq]
  refine (whole_apply _ _ _ _ _ _ i j fun i => (maskR_apply i i).trans (sees_self i)).trans ?_
  simp only [maskR_apply]
  rfl

end Cert.RingProof.Ref

end
-- ==== Proof.SumVal.lean ====
/-
  The ring's sum over the extended reals: whatever order a chunk takes round the ring, each entry is the sum over all
  devices; and the kernel's returned array, entry by entry.
-/
module

public import proofs.«01_k».proof.Proof.KerVal
public import proofs.«01_k».proof.Proof.RefVal

@[expose] public section

set_option maxRecDepth 16384

noncomputable section

namespace Cert.RingProof

open Cert.KernelIdeal Cert.KernelIdeal.Gen

open Idealize.ShloMosaic
open Idealize.ShloMosaic.TcCoe

section
variable (P : Dev nD → Vec Ideal S1024x1024 .f32)

theorem acc_apply (q : Dev nD) (s : ℕ) (j : S32x1024.Idx) :
    acc P q s j = ∑ t ∈ Finset.range (s + 1), (P (fw q t) ((chunkR q).emb j) : EReal) := by
  induction s with
  | zero =>
    have h : fw q 0 = q := by
      apply Fin.ext
      have hq : q.val < 32 := q.isLt
      exact Nat.mod_eq_of_lt hq
    rw [Finset.sum_range_one, h]; rfl
  | succ s ih =>
    rw [Finset.sum_range_succ, ← ih]
    exact add_comm _ _

theorem sum_fw (q : Dev nD) (f : Dev nD → EReal) : ∑ t ∈ Finset.range 32, f (fw q t) = ∑ c : Dev nD, f c := by
  have hq : q.val < 32 := q.isLt
  refine Finset.sum_bij (fun t _ => fw q t) (fun _ _ => Finset.mem_univ _) ?_ ?_ (fun _ _ => rfl)
  · intro a ha b hb h
    rw [Finset.mem_range] at ha hb
    have h' : (q.val + a) % 32 = (q.val + b) % 32 := congrArg Fin.val h
    omega
  · intro c _
    have hc : c.val < 32 := c.isLt
    refine ⟨(c.val + 32 - q.val) % 32, Finset.mem_range.2 (Nat.mod_lt _ (by decide)), ?_⟩
    apply Fin.ext
    show (q.val + (c.val + 32 - q.val) % 32) % 32 = c.val
    omega

theorem sumAll_apply (i j : Fin 1024) : sumAll P (ix2 i j) = ∑ c : Dev nD, (P c (ix2 i j) : EReal) := by
  unfold sumAll
  rw [acc_apply, sum_fw _ fun c => P c _]
  refine Finset.sum_congr rfl fun c _ => ?_
  congr 1
  funext a
  fin_cases a
  · apply Fin.ext
    rw [Rect.emb_apply]
    show 32 * (i.val / 32) + 1 * (i.val % 32) = i.val
    omega
  · apply Fin.ext
    rw [Rect.emb_apply]
    show 0 + 1 * j.val = j.val
    omega
end

/-! ## The kernel's entry is the reference's -/

section
variable (m : (ℓ : Loc nD τ sig) → Buf (Elt Ideal) ℓ)
  (x : FVec Ideal S1x1024x1024 .f32) (wq : FVec Ideal S1024x32768 .f32) (k v : FVec Ideal ⟨4, ![1, 1024, 256, 128]⟩ .f32) (wo : FVec Ideal S32768x1024 .f32)

/-- What the devices' arguments are, of the whole arrays. -/
def Holds : Prop := ∀ c : Dev nD,
  m ((c.tc : Thread nD τ).loc main_arg0) = x ∧ m ((c.tc : Thread nD τ).loc main_arg1) = wq
    ∧ m ((c.tc : Thread nD τ).loc main_arg2) = Layout.block ⟨4, ![1, 1024, 8, 128]⟩ ⟨4, ![1, 1024, 256, 128]⟩ 2 32 c k
    ∧ m ((c.tc : Thread nD τ).loc main_arg3) = Layout.block ⟨4, ![1, 1024, 8, 128]⟩ ⟨4, ![1, 1024, 256, 128]⟩ 2 32 c v
    ∧ m ((c.tc : Thread nD τ).loc main_arg4) = wo

/-- The device's head `h`, of all 256. -/
def headOfDev (c : Dev nD) (h : Fin 8) : Fin 256 := ⟨c.val * 8 + h.val, by have hc : c.val < 32 := c.isLt; omega⟩

theorem block_head (c : Dev nD) (t : Fin 1024) (h : Fin 8) (d : Fin 128) :
    Layout.block ⟨4, ![1, 1024, 8, 128]⟩ ⟨4, ![1, 1024, 256, 128]⟩ 2 32 c k (by decide) (ix4 0 t h d) = k (ix4 0 t (headOfDev c h) d) := by
  rw [Layout.block_apply]
  congr 1
  funext a
  fin_cases a <;> rfl

theorem mine_col (c : Dev nD) (h : Fin 8) (e : Fin 128) : mine c (colOf h e) = Ref.colR (headOfDev c h) e := by
  apply Fin.ext
  show 1024 * c.val + (128 * h.val + e.val) = (c.val * 8 + h.val) * 128 + e.val
  omega

variable {m x wq k v wo}

theorem P_apply (H : Holds m x wq k v wo) (c : Dev nD) (i j : Fin 1024) : P m c (ix2 i j)
    = ∑ h : Fin 8, ∑ d : Fin 128, mix (fun t => score (sees i t)
        (fun e => ∑ y : Fin 1024, x (ix3 0 i y) * wq (ix2 y (Ref.colR (headOfDev c h) e))) (fun e => k (ix4 0 t (headOfDev c h) e)))
        (fun t => v (ix4 0 t (headOfDev c h) d)) * wo (ix2 (Ref.colR (headOfDev c h) d) j) := by
  obtain ⟨e0, e1, e2, e3, e4⟩ := H c
  have hx : ∀ i y, V1 m c main_v5 (ix2 i y) = x (ix3 0 i y) := fun i y => (opX m c i y).trans (congrFun e0 _)
  have hq : ∀ y n, V1 m c main_v10 (ix2 y n) = wq (ix2 y (mine c n)) := fun y n => (opQ m c y n).trans (congrFun e1 _)
  have hk : ∀ t h d, V1 m c main_v16 (ix3 t h d) = k (ix4 0 t (headOfDev c h) d) := fun t h d =>
    (opK m c t h d).trans ((congrFun e2 _).trans (block_head k c t h d))
  have hv : ∀ t h d, V1 m c main_v17 (ix3 t h d) = v (ix4 0 t (headOfDev c h) d) := fun t h d =>
    (opV m c t h d).trans ((congrFun e3 _).trans (block_head v c t h d))
  have ho : ∀ n j, V1 m c main_v15 (ix2 n j) = wo (ix2 (mine c n) j) := fun n j => (opO m c n j).trans (congrFun e4 _)
  unfold P
  generalize V1 m c main_v5 = X at hx ⊢
  generalize V1 m c main_v10 = Q at hq ⊢
  generalize V1 m c main_v16 = K at hk ⊢
  generalize V1 m c main_v17 = W at hv ⊢
  generalize V1 m c main_v15 = O at ho ⊢
  refine (layer_apply X Q K W O i j).trans ?_
  unfold headAt
  simp only [pay1_apply, mask_apply, hx, hq, hk, hv, ho, mine_col]

/-- Each entry of the kernel's sum is the reference's. -/
theorem sum_eq (H : Holds m x wq k v wo) (i j : Fin 1024) : sumAll (P m) (ix2 i j) = Ref.answer x wq k v wo i j := by
  rw [sumAll_apply]
  simp only [P_apply H]
  unfold Ref.answer
  rw [← Fintype.sum_prod_type']
  refine Fintype.sum_equiv (finProdFinEquiv (m := 32) (n := 8)) _ _ fun p => ?_
  obtain ⟨c, h⟩ := p
  have hn : (finProdFinEquiv (c, h) : Fin (32 * 8)) = headOfDev c h := by
    apply Fin.ext; simp [finProdFinEquiv, headOfDev]; omega
  rw [hn]

/-- What every device returns, entry by entry. -/
theorem ret_apply (H : Holds m x wq k v wo) (c : Dev nD) (i j : Fin 1024) : V3 m (outs m) c main_v19 (ix3 0 i j) = Ref.answer x wq k v wo i j := by
  rw [← sum_eq H i j, ← V2_out m c]
  unfold V3
  after_reads_at
end

end Cert.RingProof

end
-- ==== Proof.lean ====
/-
  The proof of `Cert.Claim`: the three frames, `preserves`, and the kernel's result against the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Run
public import proofs.«01_k».proof.Proof.Same
public import proofs.«01_k».proof.Proof.SumVal

@[expose] public section

noncomputable section

namespace Cert.Proof

open Idealize.ShloMosaic Idealize.ShloMosaic.TcCoe Idealize.SL.Sem Cert.Kernel

/-- The kernel runs at bit patterns, leaving its arguments unchanged and all semaphores at zero. -/
theorem frame_kernel : Cert.quiescent_Kernel (hKernel := Cert.Kernel.Gen.facts) := fun m ρ _ =>
  Cert.RingProof.run_same _ _ (Cert.RingProof.run_kept (F := Bits) m ρ)

/-- The same at extended reals. -/
theorem frame_kernelIdeal : Cert.quiescent_KernelIdeal (hKernelIdeal := Cert.KernelIdeal.Gen.facts) := fun m ρ _ =>
  Cert.RingProof.run_kept (F := Ideal) m ρ

/-- The reference runs, leaving its arguments unchanged; it has no semaphores. -/
theorem frame_ref : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Every device of the kernel returns what the reference returns. -/
theorem algebraic : Cert.algebraic_KernelIdeal_ReferenceIdeal (hKernelIdeal := Cert.KernelIdeal.Gen.facts)
    (hReferenceIdeal := Cert.ReferenceIdeal.Gen.facts) := fun m g m' g' _ H => by
  have hv : ∀ c, (Cert.KernelIdeal.Gen.V3 m (Cert.RingProof.outs m) c Cert.KernelIdeal.main_v19 : FVec Ideal Cert.KernelIdeal.S1x1024x1024 .f32)
      = Cert.ReferenceIdeal.Value.res_out0 m' 0 := fun c => by
    funext y
    obtain ⟨a, i, j, rfl⟩ : ∃ (a : Fin 1) (i j : Fin 1024), y = ix3 a i j := ⟨y 0, y 1, y 2, eq_ix3 y⟩
    obtain rfl : a = 0 := Subsingleton.elim _ _
    exact (Cert.RingProof.ret_apply H c i j).trans (Cert.RingProof.Ref.res_apply m' 0 i j).symm
  refine ⟨Cert.ReferenceIdeal.Value.res_out0 m' 0, ?_, ?_⟩
  · exact (θ_run Cert.KernelIdeal.defs _ _).mono (fun r h c => ⟨(h.1 c).2.trans (hv c), (h.1 c).1⟩) (Cert.RingProof.run_main (F := Ideal) m g)
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_ref, trivial, algebraic⟩

end Cert.Proof

end
